-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 2048]⟩ ⟨2, ![1024, 8192]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 2048]⟩ ⟨2, ![1024, 8192]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![2048, 1024]⟩ ⟨2, ![8192, 1024]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x1024 : Shape := ⟨2, ![1024, 1024]⟩
abbrev S1024x2048 : Shape := ⟨2, ![1024, 2048]⟩
abbrev S2048x1024 : Shape := ⟨2, ![2048, 1024]⟩
abbrev S3x256x1024 : Shape := ⟨3, ![3, 256, 1024]⟩
abbrev S256x1024 : Shape := ⟨2, ![256, 1024]⟩
abbrev S3 : Shape := ⟨1, ![3]⟩
abbrev S_ : Shape := ⟨0, ![]⟩
abbrev S256x2048 : Shape := ⟨2, ![256, 2048]⟩
abbrev S1x256x1024 : Shape := ⟨3, ![1, 256, 1024]⟩
abbrev S1 : Shape := ⟨1, ![1]⟩

abbrev nBuf : Space → Nat
  | .hbm => 5
  | .vmem => 9
  | .smem => 0
  | _ => 0

abbrev bufTy : (tb : Table) → Fin (tcTables nBuf tb) → BufTy
  | .hbm, ⟨0, _⟩ => ⟨S1024x1024, .f32⟩
  | .hbm, ⟨1, _⟩ => ⟨S1024x2048, .f32⟩
  | .hbm, ⟨2, _⟩ => ⟨S1024x2048, .f32⟩
  | .hbm, ⟨3, _⟩ => ⟨S2048x1024, .f32⟩
  | .hbm, ⟨4, _⟩ => ⟨S1024x1024, .f32⟩
  | .local _ .vmem, ⟨0, _⟩ => ⟨S1024x1024, .f32⟩
  | .local _ .vmem, ⟨1, _⟩ => ⟨S1024x2048, .f32⟩
  | .local _ .vmem, ⟨2, _⟩ => ⟨S1024x2048, .f32⟩
  | .local _ .vmem, ⟨3, _⟩ => ⟨S2048x1024, .f32⟩
  | .local _ .vmem, ⟨4, _⟩ => ⟨S1024x1024, .f32⟩
  | .local _ .vmem, ⟨5, _⟩ => ⟨S3x256x1024, .bf16⟩
  | .local _ .vmem, ⟨6, _⟩ => ⟨S3x256x1024, .bf16⟩
  | .local _ .vmem, ⟨7, _⟩ => ⟨S256x1024, .bf16⟩
  | .local _ .vmem, ⟨8, _⟩ => ⟨S3x256x1024, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  (ofTc nBuf bufTy 1 17 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c0_i32 : BitVec 32 := 0#32
  let v5 : BitVec 32 := Scalar.addi v4 c0_i32
  let c4_i32_1 : BitVec 32 := 4#32
  let c0_i32_2 : BitVec 32 := 0#32
  let v6 : BitVec 1 := Scalar.cmpi .eq c4_i32_1 c0_i32_2
  let c1_i32_3 : BitVec 32 := 1#32
  let v7 : BitVec 32 := Scalar.select v6 c1_i32_3 c4_i32_1
  let v8 : BitVec 32 := Scalar.remsi v5 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c1_i32_8 : BitVec 32 := 1#32
  let v16 : BitVec 32 := Scalar.muli v15 c1_i32_8
  let v17 : BitVec 32 := Scalar.addi c0_i32_9 v16
  v17.toNat
def k0_dev2 (d0 : Dev nD) : Nat :=
  let c0_i32_20 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_10 : BitVec 32 := 1#32
  let v18 : BitVec 32 := Scalar.addi v2 c1_i32_10
  let c1_i32_11 : BitVec 32 := 1#32
  let v19 : BitVec 32 := Scalar.addi v18 c1_i32_11
  let c4_i32_12 : BitVec 32 := 4#32
  let c0_i32_13 : BitVec 32 := 0#32
  let v20 : BitVec 1 := Scalar.cmpi .eq c4_i32_12 c0_i32_13
  let c1_i32_14 : BitVec 32 := 1#32
  let v21 : BitVec 32 := Scalar.select v20 c1_i32_14 c4_i32_12
  let v22 : BitVec 32 := Scalar.remsi v19 v21
  let c0_i32_16 : BitVec 32 := 0#32
  let v24 : BitVec 1 := Scalar.cmpi .slt v22 c0_i32_16
  let c0_i32_17 : BitVec 32 := 0#32
  let v25 : BitVec 1 := Scalar.cmpi .slt v21 c0_i32_17
  let v26 : BitVec 1 := Scalar.xori v24 v25
  let c0_i32_15 : BitVec 32 := 0#32
  let v23 : BitVec 1 := Scalar.cmpi .ne v22 c0_i32_15
  let v27 : BitVec 1 := Scalar.andi v26 v23
  let v28 : BitVec 32 := Scalar.addi v22 v21
  let v29 : BitVec 32 := Scalar.select v27 v28 v22
  let c1_i32_19 : BitVec 32 := 1#32
  let v30 : BitVec 32 := Scalar.muli v29 c1_i32_19
  let v31 : BitVec 32 := Scalar.addi c0_i32_20 v30
  v31.toNat
def k0_dev3 (d0 : Dev nD) : Nat :=
  let c0_i32_30 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_21 : BitVec 32 := 1#32
  let v32 : BitVec 32 := Scalar.addi v2 c1_i32_21
  let c2_i32 : BitVec 32 := 2#32
  let v33 : BitVec 32 := Scalar.addi v32 c2_i32
  let c4_i32_22 : BitVec 32 := 4#32
  let c0_i32_23 : BitVec 32 := 0#32
  let v34 : BitVec 1 := Scalar.cmpi .eq c4_i32_22 c0_i32_23
  let c1_i32_24 : BitVec 32 := 1#32
  let v35 : BitVec 32 := Scalar.select v34 c1_i32_24 c4_i32_22
  let v36 : BitVec 32 := Scalar.remsi v33 v35
  let c0_i32_26 : BitVec 32 := 0#32
  let v38 : BitVec 1 := Scalar.cmpi .slt v36 c0_i32_26
  let c0_i32_27 : BitVec 32 := 0#32
  let v39 : BitVec 1 := Scalar.cmpi .slt v35 c0_i32_27
  let v40 : BitVec 1 := Scalar.xori v38 v39
  let c0_i32_25 : BitVec 32 := 0#32
  let v37 : BitVec 1 := Scalar.cmpi .ne v36 c0_i32_25
  let v41 : BitVec 1 := Scalar.andi v40 v37
  let v42 : BitVec 32 := Scalar.addi v36 v35
  let v43 : BitVec 32 := Scalar.select v41 v42 v36
  let c1_i32_29 : BitVec 32 := 1#32
  let v44 : BitVec 32 := Scalar.muli v43 c1_i32_29
  let v45 : BitVec 32 := Scalar.addi c0_i32_30 v44
  v45.toNat
def k0_off1 (d0 : Dev nD) (c0_i32_32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_31 : BitVec 32 := 1#32
  let v46 : BitVec 32 := Scalar.addi v2 c1_i32_31
  let v47 : BitVec 32 := Scalar.addi v46 c0_i32_32
  let c4_i32_33 : BitVec 32 := 4#32
  let c0_i32_34 : BitVec 32 := 0#32
  let v48 : BitVec 1 := Scalar.cmpi .eq c4_i32_33 c0_i32_34
  let c1_i32_35 : BitVec 32 := 1#32
  let v49 : BitVec 32 := Scalar.select v48 c1_i32_35 c4_i32_33
  let v50 : BitVec 32 := Scalar.remsi v47 v49
  let c0_i32_37 : BitVec 32 := 0#32
  let v52 : BitVec 1 := Scalar.cmpi .slt v50 c0_i32_37
  let c0_i32_38 : BitVec 32 := 0#32
  let v53 : BitVec 1 := Scalar.cmpi .slt v49 c0_i32_38
  let v54 : BitVec 1 := Scalar.xori v52 v53
  let c0_i32_36 : BitVec 32 := 0#32
  let v51 : BitVec 1 := Scalar.cmpi .ne v50 c0_i32_36
  let v55 : BitVec 1 := Scalar.andi v54 v51
  let v56 : BitVec 32 := Scalar.addi v50 v49
  let v57 : BitVec 32 := Scalar.select v55 v56 v50
  let c256_i32 : BitVec 32 := 256#32
  let v58 : BitVec 32 := Scalar.muli v57 c256_i32
  let v59 : Index := Scalar.indexCast v58
  let c0 : Index := 0#32
  ![v59.toNat, 0]
def k0_dev4 (d0 : Dev nD) : Nat :=
  let c0_i32_55 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_31 : BitVec 32 := 1#32
  let v46 : BitVec 32 := Scalar.addi v2 c1_i32_31
  let c0_i32_32 : BitVec 32 := 0#32
  let v47 : BitVec 32 := Scalar.addi v46 c0_i32_32
  let c4_i32_33 : BitVec 32 := 4#32
  let c0_i32_34 : BitVec 32 := 0#32
  let v48 : BitVec 1 := Scalar.cmpi .eq c4_i32_33 c0_i32_34
  let c1_i32_35 : BitVec 32 := 1#32
  let v49 : BitVec 32 := Scalar.select v48 c1_i32_35 c4_i32_33
  let v50 : BitVec 32 := Scalar.remsi v47 v49
  let c0_i32_37 : BitVec 32 := 0#32
  let v52 : BitVec 1 := Scalar.cmpi .slt v50 c0_i32_37
  let c0_i32_38 : BitVec 32 := 0#32
  let v53 : BitVec 1 := Scalar.cmpi .slt v49 c0_i32_38
  let v54 : BitVec 1 := Scalar.xori v52 v53
  let c0_i32_36 : BitVec 32 := 0#32
  let v51 : BitVec 1 := Scalar.cmpi .ne v50 c0_i32_36
  let v55 : BitVec 1 := Scalar.andi v54 v51
  let v56 : BitVec 32 := Scalar.addi v50 v49
  let v57 : BitVec 32 := Scalar.select v55 v56 v50
  let c1_i32_54 : BitVec 32 := 1#32
  let v78 : BitVec 32 := Scalar.muli v57 c1_i32_54
  let v79 : BitVec 32 := Scalar.addi c0_i32_55 v78
  v79.toNat
def k0_dev5 (d0 : Dev nD) : Nat :=
  let c0_i32_86 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_60 : BitVec 32 := 1#32
  let v88 : BitVec 32 := Scalar.addi v2 c1_i32_60
  let c1_i32_61 : BitVec 32 := 1#32
  let v89 : BitVec 32 := Scalar.addi v88 c1_i32_61
  let c4_i32_62 : BitVec 32 := 4#32
  let c0_i32_63 : BitVec 32 := 0#32
  let v90 : BitVec 1 := Scalar.cmpi .eq c4_i32_62 c0_i32_63
  let c1_i32_64 : BitVec 32 := 1#32
  let v91 : BitVec 32 := Scalar.select v90 c1_i32_64 c4_i32_62
  let v92 : BitVec 32 := Scalar.remsi v89 v91
  let c0_i32_66 : BitVec 32 := 0#32
  let v94 : BitVec 1 := Scalar.cmpi .slt v92 c0_i32_66
  let c0_i32_67 : BitVec 32 := 0#32
  let v95 : BitVec 1 := Scalar.cmpi .slt v91 c0_i32_67
  let v96 : BitVec 1 := Scalar.xori v94 v95
  let c0_i32_65 : BitVec 32 := 0#32
  let v93 : BitVec 1 := Scalar.cmpi .ne v92 c0_i32_65
  let v97 : BitVec 1 := Scalar.andi v96 v93
  let v98 : BitVec 32 := Scalar.addi v92 v91
  let v99 : BitVec 32 := Scalar.select v97 v98 v92
  let c1_i32_85 : BitVec 32 := 1#32
  let v120 : BitVec 32 := Scalar.muli v99 c1_i32_85
  let v121 : BitVec 32 := Scalar.addi c0_i32_86 v120
  v121.toNat
def k0_dev6 (d0 : Dev nD) : Nat :=
  let c0_i32_117 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_91 : BitVec 32 := 1#32
  let v130 : BitVec 32 := Scalar.addi v2 c1_i32_91
  let c2_i32_92 : BitVec 32 := 2#32
  let v131 : BitVec 32 := Scalar.addi v130 c2_i32_92
  let c4_i32_93 : BitVec 32 := 4#32
  let c0_i32_94 : BitVec 32 := 0#32
  let v132 : BitVec 1 := Scalar.cmpi .eq c4_i32_93 c0_i32_94
  let c1_i32_95 : BitVec 32 := 1#32
  let v133 : BitVec 32 := Scalar.select v132 c1_i32_95 c4_i32_93
  let v134 : BitVec 32 := Scalar.remsi v131 v133
  let c0_i32_97 : BitVec 32 := 0#32
  let v136 : BitVec 1 := Scalar.cmpi .slt v134 c0_i32_97
  let c0_i32_98 : BitVec 32 := 0#32
  let v137 : BitVec 1 := Scalar.cmpi .slt v133 c0_i32_98
  let v138 : BitVec 1 := Scalar.xori v136 v137
  let c0_i32_96 : BitVec 32 := 0#32
  let v135 : BitVec 1 := Scalar.cmpi .ne v134 c0_i32_96
  let v139 : BitVec 1 := Scalar.andi v138 v135
  let v140 : BitVec 32 := Scalar.addi v134 v133
  let v141 : BitVec 32 := Scalar.select v139 v140 v134
  let c1_i32_116 : BitVec 32 := 1#32
  let v162 : BitVec 32 := Scalar.muli v141 c1_i32_116
  let v163 : BitVec 32 := Scalar.addi c0_i32_117 v162
  v163.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_122 : BitVec 32 := 256#32
  let v172 : BitVec 32 := Scalar.muli v2 c256_i32_122
  let v173 : Index := Scalar.indexCast v172
  let c0_123 : Index := 0#32
  ![v173.toNat, 0]
def k0_dev7 (d0 : Dev nD) : Nat :=
  let c0_i32_188 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_176 : BitVec 32 := 1#32
  let v231 : BitVec 32 := Scalar.addi v2 c1_i32_176
  let c0_i32_177 : BitVec 32 := 0#32
  let v232 : BitVec 32 := Scalar.addi v231 c0_i32_177
  let c4_i32_178 : BitVec 32 := 4#32
  let c0_i32_179 : BitVec 32 := 0#32
  let v233 : BitVec 1 := Scalar.cmpi .eq c4_i32_178 c0_i32_179
  let c1_i32_180 : BitVec 32 := 1#32
  let v234 : BitVec 32 := Scalar.select v233 c1_i32_180 c4_i32_178
  let v235 : BitVec 32 := Scalar.remsi v232 v234
  let c0_i32_182 : BitVec 32 := 0#32
  let v237 : BitVec 1 := Scalar.cmpi .slt v235 c0_i32_182
  let c0_i32_183 : BitVec 32 := 0#32
  let v238 : BitVec 1 := Scalar.cmpi .slt v234 c0_i32_183
  let v239 : BitVec 1 := Scalar.xori v237 v238
  let c0_i32_181 : BitVec 32 := 0#32
  let v236 : BitVec 1 := Scalar.cmpi .ne v235 c0_i32_181
  let v240 : BitVec 1 := Scalar.andi v239 v236
  let v241 : BitVec 32 := Scalar.addi v235 v234
  let v242 : BitVec 32 := Scalar.select v240 v241 v235
  let c1_i32_187 : BitVec 32 := 1#32
  let v243 : BitVec 32 := Scalar.muli v242 c1_i32_187
  let v244 : BitVec 32 := Scalar.addi c0_i32_188 v243
  v244.toNat
def k0_dev8 (d0 : Dev nD) : Nat :=
  let c0_i32_203 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_191 : BitVec 32 := 1#32
  let v251 : BitVec 32 := Scalar.addi v2 c1_i32_191
  let c1_i32_192 : BitVec 32 := 1#32
  let v252 : BitVec 32 := Scalar.addi v251 c1_i32_192
  let c4_i32_193 : BitVec 32 := 4#32
  let c0_i32_194 : BitVec 32 := 0#32
  let v253 : BitVec 1 := Scalar.cmpi .eq c4_i32_193 c0_i32_194
  let c1_i32_195 : BitVec 32 := 1#32
  let v254 : BitVec 32 := Scalar.select v253 c1_i32_195 c4_i32_193
  let v255 : BitVec 32 := Scalar.remsi v252 v254
  let c0_i32_197 : BitVec 32 := 0#32
  let v257 : BitVec 1 := Scalar.cmpi .slt v255 c0_i32_197
  let c0_i32_198 : BitVec 32 := 0#32
  let v258 : BitVec 1 := Scalar.cmpi .slt v254 c0_i32_198
  let v259 : BitVec 1 := Scalar.xori v257 v258
  let c0_i32_196 : BitVec 32 := 0#32
  let v256 : BitVec 1 := Scalar.cmpi .ne v255 c0_i32_196
  let v260 : BitVec 1 := Scalar.andi v259 v256
  let v261 : BitVec 32 := Scalar.addi v255 v254
  let v262 : BitVec 32 := Scalar.select v260 v261 v255
  let c1_i32_202 : BitVec 32 := 1#32
  let v263 : BitVec 32 := Scalar.muli v262 c1_i32_202
  let v264 : BitVec 32 := Scalar.addi c0_i32_203 v263
  v264.toNat
def k0_dev9 (d0 : Dev nD) : Nat :=
  let c0_i32_218 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_206 : BitVec 32 := 1#32
  let v271 : BitVec 32 := Scalar.addi v2 c1_i32_206
  let c2_i32_207 : BitVec 32 := 2#32
  let v272 : BitVec 32 := Scalar.addi v271 c2_i32_207
  let c4_i32_208 : BitVec 32 := 4#32
  let c0_i32_209 : BitVec 32 := 0#32
  let v273 : BitVec 1 := Scalar.cmpi .eq c4_i32_208 c0_i32_209
  let c1_i32_210 : BitVec 32 := 1#32
  let v274 : BitVec 32 := Scalar.select v273 c1_i32_210 c4_i32_208
  let v275 : BitVec 32 := Scalar.remsi v272 v274
  let c0_i32_212 : BitVec 32 := 0#32
  let v277 : BitVec 1 := Scalar.cmpi .slt v275 c0_i32_212
  let c0_i32_213 : BitVec 32 := 0#32
  let v278 : BitVec 1 := Scalar.cmpi .slt v274 c0_i32_213
  let v279 : BitVec 1 := Scalar.xori v277 v278
  let c0_i32_211 : BitVec 32 := 0#32
  let v276 : BitVec 1 := Scalar.cmpi .ne v275 c0_i32_211
  let v280 : BitVec 1 := Scalar.andi v279 v276
  let v281 : BitVec 32 := Scalar.addi v275 v274
  let v282 : BitVec 32 := Scalar.select v280 v281 v275
  let c1_i32_217 : BitVec 32 := 1#32
  let v283 : BitVec 32 := Scalar.muli v282 c1_i32_217
  let v284 : BitVec 32 := Scalar.addi c0_i32_218 v283
  v284.toNat
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S1024x1024 : Shape := ⟨2, ![1024, 1024]⟩
abbrev S1024x8192 : Shape := ⟨2, ![1024, 8192]⟩
abbrev S8192x1024 : Shape := ⟨2, ![8192, 1024]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x8192, .f32⟩
  | .hbm, ⟨2, _⟩ => ⟨S1024x8192, .f32⟩
  | .hbm, ⟨3, _⟩ => ⟨S8192x1024, .f32⟩
  | .hbm, ⟨4, _⟩ => ⟨S1024x8192, .f32⟩
  | .hbm, ⟨5, _⟩ => ⟨S1024x8192, .f32⟩
  | .hbm, ⟨6, _⟩ => ⟨S1024x8192, .f32⟩
  | .hbm, ⟨7, _⟩ => ⟨S1024x8192, .f32⟩
  | .hbm, ⟨8, _⟩ => ⟨S_, .f32⟩
  | .hbm, ⟨9, _⟩ => ⟨S1024x8192, .f32⟩
  | .hbm, ⟨10, _⟩ => ⟨S1024x8192, .f32⟩
  | .hbm, ⟨11, _⟩ => ⟨S1024x8192, .f32⟩
  | .hbm, ⟨12, _⟩ => ⟨S1024x8192, .f32⟩
  | .hbm, ⟨13, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Proof.Cells.lean ====
/-
  The four devices, the kernel's semaphores and its buffers.

  Every device talks to its three peers. `peer p c` is the device `1 + p` places after `c` around the ring of four,
  and `rev p` names the way back: `peer (rev p) (peer p c) = c`. A device's semaphores are its barrier and twelve
  semaphores of transfers, in four groups of three: the reduce-scatter's sends and receives, the all-gather's sends
  and receives. Two landing buffers and one outgoing buffer have three slots of 256 rows each.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.Ffn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Peers -/

set_option backward.proofsInPublic true in
/-- The device `1 + p` places after `c`. -/
def peer (p : Fin 3) (c : Dev nD) : Dev nD := ⟨(c.val + 1 + p.val) % 4, Nat.mod_lt _ (by decide)⟩

set_option backward.proofsInPublic true in
/-- The way back from a device's peer `p`. -/
def rev (p : Fin 3) : Fin 3 := ⟨2 - p.val, by omega⟩

/-- Taking the reverse distance twice changes nothing, -/
theorem rev_rev (p : Fin 3) : rev (rev p) = p := by revert p; decide
/-- so the peer of a peer, in reverse, is the device itself, -/
theorem peer_rev_peer (p : Fin 3) (c : Dev nD) : peer (rev p) (peer p c) = c := by revert p c; decide
/-- and the other way round. -/
theorem peer_peer_rev (p : Fin 3) (c : Dev nD) : peer p (peer (rev p) c) = c := by revert p c; decide
/-- A device is none of its peers. -/
theorem peer_ne (p : Fin 3) (c : Dev nD) : peer p c ≠ c := by revert p c; decide

/-- Going to peer `p` is a bijection of the devices. -/
def shift (p : Fin 3) : Dev nD ≃ Dev nD := ⟨peer p, peer (rev p), peer_rev_peer p, peer_peer_rev p⟩

/-- The device that each signal and each transfer of the kernel names: peers 0, 1, 2, three times over. -/
theorem dev1_eq (c : Dev nD) : (⟨k0_dev1 c, k0_dev1_lt c⟩ : Dev nD) = peer 0 c := by revert c; decide +kernel
theorem dev2_eq (c : Dev nD) : (⟨k0_dev2 c, k0_dev2_lt c⟩ : Dev nD) = peer 1 c := by revert c; decide +kernel
theorem dev3_eq (c : Dev nD) : (⟨k0_dev3 c, k0_dev3_lt c⟩ : Dev nD) = peer 2 c := by revert c; decide +kernel
theorem dev4_eq (c : Dev nD) : (⟨k0_dev4 c, k0_dev4_lt c⟩ : Dev nD) = peer 0 c := by revert c; decide +kernel
theorem dev5_eq (c : Dev nD) : (⟨k0_dev5 c, k0_dev5_lt c⟩ : Dev nD) = peer 1 c := by revert c; decide +kernel
theorem dev6_eq (c : Dev nD) : (⟨k0_dev6 c, k0_dev6_lt c⟩ : Dev nD) = peer 2 c := by revert c; decide +kernel
theorem dev7_eq (c : Dev nD) : (⟨k0_dev7 c, k0_dev7_lt c⟩ : Dev nD) = peer 0 c := by revert c; decide +kernel
theorem dev8_eq (c : Dev nD) : (⟨k0_dev8 c, k0_dev8_lt c⟩ : Dev nD) = peer 1 c := by revert c; decide +kernel
theorem dev9_eq (c : Dev nD) : (⟨k0_dev9 c, k0_dev9_lt c⟩ : Dev nD) = peer 2 c := by revert c; decide +kernel

/-- Where the rows of device `r`'s chunk start. -/
abbrev rowOff (r : Dev nD) : Fin 2 → ℕ := ![256 * r.val, 0]
/-- The kernel's row offset for peer `p` is that of the peer's chunk. -/
theorem off1_eq (c : Dev nD) (p : Fin 3) : k0_off1 c (BitVec.ofNat 32 p.val) = rowOff (peer p c) := by
  revert p c; decide +kernel

/-- A chunk's rectangle lies in the input. -/
theorem row_inb (r : Dev nD) : ∀ a, rowOff r a + S256x1024.size a ≤ S1024x1024.size a := by
  revert r; decide

/-! ## The buffers -/

/-- The staged operands and the result, whole. -/
abbrev xM : Memref sig .tc .vmem S1024x1024 .f32 := Memref.whole cc0_stg0_0
abbrev gM : Memref sig .tc .vmem S1024x2048 .f32 := Memref.whole cc0_stg1_0
abbrev uM : Memref sig .tc .vmem S1024x2048 .f32 := Memref.whole cc0_stg2_0
abbrev dM : Memref sig .tc .vmem S2048x1024 .f32 := Memref.whole cc0_stg3_0
abbrev oM : Memref sig .tc .vmem S1024x1024 .f32 := Memref.whole cc0_stg4_0
/-- The outgoing partial products (three slots), -/
abbrev stM : Memref sig .tc .vmem S3x256x1024 .bf16 := Memref.whole cc0_scratch0
/-- the partial products landing from the peers (three slots), -/
abbrev rsM : Memref sig .tc .vmem S3x256x1024 .bf16 := Memref.whole cc0_scratch1
/-- the outgoing reduced chunk, -/
abbrev srcM : Memref sig .tc .vmem S256x1024 .bf16 := Memref.whole cc0_scratch2
/-- the reduced chunks landing from the peers (three slots). -/
abbrev agM : Memref sig .tc .vmem S3x256x1024 .bf16 := Memref.whole cc0_scratch3

/-- A slot's rectangle lies in a buffer of three. -/
theorem slot_inb (q : Fin 3) : ∀ a, (![q.val, 0, 0] : Fin 3 → ℕ) a + S1x256x1024.size a ≤ S3x256x1024.size a := by
  revert q; decide

/-- The rectangle of slot `q` in a buffer of three slots. -/
abbrev slotR (q : Fin 3) : Rect S3x256x1024 := Rect.unit (s := S3x256x1024) ![q.val, 0, 0] S1x256x1024.size (slot_inb q)

/-- Slot `q` of a buffer of three slots, as a buffer of 256 rows. -/
abbrev slot (b : Memref sig .tc .vmem S3x256x1024 .bf16) (q : Fin 3) : Memref sig .tc .vmem S256x1024 .bf16 :=
  (b.slice (slotR q) (fun _ => rfl)).squeeze S256x1024 squeezes_S1x256x1024_S256x1024

/-! ## The semaphores -/

/-- The barrier semaphore. -/
abbrev barS : Sem sig := (SemArray.scalar (sig.barrier 0 rfl) : Sems sig S_).sem

/-- Semaphore `p` of group `a`: 0 the reduce-scatter's sends, 1 its receives, 2 the all-gather's sends, 3 its receives. -/
def xsem (a : Fin 4) (p : Fin 3) : DmaSem sig := ⟨5 + 3 * a.val + p.val, by have := a.isLt; have := p.isLt; show _ < 17; omega⟩

/-- Which transfer semaphore a number is: its group and its place there; nothing for the pipeline's own. -/
def kindOf (s : DmaSem sig) : Option (Fin 4 × Fin 3) :=
  if s.val < 5 then none else some (Fin.ofNat 4 ((s.val - 5) / 3), Fin.ofNat 3 ((s.val - 5) % 3))
/-- The kind of a copy's semaphore is read back from it. -/
theorem kindOf_xsem (a : Fin 4) (p : Fin 3) : kindOf (xsem a p) = some (a, p) := by revert a p; decide

/-- The barrier cell of a device, and its transfer cells. -/
abbrev barCell (c : Dev nD) : GSem nD τ sig := ((c : Thread nD τ), .reg barS)
/-- That semaphore on device `c`. -/
abbrev xcell (a : Fin 4) (p : Fin 3) (c : Dev nD) : GSem nD τ sig := ((c : Thread nD τ), .dma (xsem a p))

/-- The transfer semaphores in one row, as the launch numbers a kernel's own semaphores; -/
abbrev osem : Fin 12 → SemLoc sig := fun k => .dma ⟨5 + k.val, by have := k.isLt; show _ < 17; omega⟩
/-- and with the barrier in front. -/
abbrev csem : Option (Fin 4 × Fin 3) → SemLoc sig := fun | none => .reg barS | some (a, p) => .dma (xsem a p)
/-- Every cell of the protocol: a device and one of its thirteen semaphores. -/
abbrev kcell (ck : Dev nD × Option (Fin 4 × Fin 3)) : GSem nD τ sig := ((ck.1 : Thread nD τ), csem ck.2)

/-- The kernel takes each of its semaphores out of an array of three. -/
theorem sem_0_0 : ((cc0_scratch4.slice (Rect.unit (s := S3) ![0] S1.size inb_S3_S1_0)).squeeze S_ squeezes_S1_S_).sem = xsem 0 0 := rfl
theorem sem_0_1 : ((cc0_scratch4.slice (Rect.unit (s := S3) ![1] S1.size inb_S3_S1_1)).squeeze S_ squeezes_S1_S_).sem = xsem 0 1 := rfl
theorem sem_0_2 : ((cc0_scratch4.slice (Rect.unit (s := S3) ![2] S1.size inb_S3_S1_2)).squeeze S_ squeezes_S1_S_).sem = xsem 0 2 := rfl
theorem sem_1_0 : ((cc0_scratch5.slice (Rect.unit (s := S3) ![0] S1.size inb_S3_S1_0)).squeeze S_ squeezes_S1_S_).sem = xsem 1 0 := rfl
theorem sem_1_1 : ((cc0_scratch5.slice (Rect.unit (s := S3) ![1] S1.size inb_S3_S1_1)).squeeze S_ squeezes_S1_S_).sem = xsem 1 1 := rfl
theorem sem_1_2 : ((cc0_scratch5.slice (Rect.unit (s := S3) ![2] S1.size inb_S3_S1_2)).squeeze S_ squeezes_S1_S_).sem = xsem 1 2 := rfl
theorem sem_2_0 : ((cc0_scratch6.slice (Rect.unit (s := S3) ![0] S1.size inb_S3_S1_0)).squeeze S_ squeezes_S1_S_).sem = xsem 2 0 := rfl
theorem sem_2_1 : ((cc0_scratch6.slice (Rect.unit (s := S3) ![1] S1.size inb_S3_S1_1)).squeeze S_ squeezes_S1_S_).sem = xsem 2 1 := rfl
theorem sem_2_2 : ((cc0_scratch6.slice (Rect.unit (s := S3) ![2] S1.size inb_S3_S1_2)).squeeze S_ squeezes_S1_S_).sem = xsem 2 2 := rfl
theorem sem_3_0 : ((cc0_scratch7.slice (Rect.unit (s := S3) ![0] S1.size inb_S3_S1_0)).squeeze S_ squeezes_S1_S_).sem = xsem 3 0 := rfl
theorem sem_3_1 : ((cc0_scratch7.slice (Rect.unit (s := S3) ![1] S1.size inb_S3_S1_1)).squeeze S_ squeezes_S1_S_).sem = xsem 3 1 := rfl
theorem sem_3_2 : ((cc0_scratch7.slice (Rect.unit (s := S3) ![2] S1.size inb_S3_S1_2)).squeeze S_ squeezes_S1_S_).sem = xsem 3 2 := rfl

/-- What one transfer of 256 rows counts for on a semaphore. -/
abbrev N : ℕ := (srcM : Memref sig .tc .vmem S256x1024 .bf16).view.dmaCredit
/-- A copy's credit is positive. -/
theorem N_pos : 0 < N := View.dmaCredit_pos _ (by decide)
/-- Every slot's transfers count the same. -/
theorem credit_slot_st (q : Fin 3) : (slot stM q).view.dmaCredit = N := by revert q; decide
/-- Each slot of the two receiving buffers has that credit. -/
theorem credit_slot_rs (q : Fin 3) : (slot rsM q).view.dmaCredit = N := by revert q; decide
theorem credit_slot_ag (q : Fin 3) : (slot agM q).view.dmaCredit = N := by revert q; decide

end Cert.Ffn

end
-- ==== Proof.Contents.lean ====
/-
  What each buffer holds during the run, as values.

  Device `s` keeps a quarter of the hidden dimension. For each device `r` it computes the partial product of `r`'s
  256 rows of the input (`part s r`), and sends it to `r` rounded (`sent s r`). Device `r` adds the four partial
  products of its rows (`acc r`), keeps them, and sends them rounded (`accs r`) to the other three. The result on a
  device has its own rows as they were added and the other rows as they came (`outAt`).
-/
module

public import proofs.«01_k».proof.Proof.Cells
public import Idealize.ShloMosaic.Lib.Pipeline.Value
public import Idealize.ShloMosaic.Lib.Pipeline.ValueKit.Geometry

@[expose] public section

noncomputable section

namespace Cert.Ffn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- The memory at launch: any contents, every semaphore counter zero, any generator registers. -/
def s₀ : MemSt nD τ sig (Elt F) := ⟨m, fun _ => 0, ρ⟩

/-- The operands as they are staged on device `c`: the input, the two weights of the hidden layer, the last weight. -/
def xstg (c : Dev nD) : (cc0_stg0_0 : Ref sig .tc).ty.Contents (Elt F) :=
  (win0_0.blk (0 : Fin 1)).view.read (Elt F) ((s₀ m ρ).mem ((c : Thread nD τ).loc main_arg0))
def gstg (c : Dev nD) : (cc0_stg1_0 : Ref sig .tc).ty.Contents (Elt F) :=
  (win0_1.blk (0 : Fin 1)).view.read (Elt F) ((s₀ m ρ).mem ((c : Thread nD τ).loc main_arg1))
def ustg (c : Dev nD) : (cc0_stg2_0 : Ref sig .tc).ty.Contents (Elt F) :=
  (win0_2.blk (0 : Fin 1)).view.read (Elt F) ((s₀ m ρ).mem ((c : Thread nD τ).loc main_arg2))
def dstg (c : Dev nD) : (cc0_stg3_0 : Ref sig .tc).ty.Contents (Elt F) :=
  (win0_3.blk (0 : Fin 1)).view.read (Elt F) ((s₀ m ρ).mem ((c : Thread nD τ).loc main_arg3))

/-- The rectangle of device `r`'s rows. -/
abbrev rowR (r : Dev nD) : Rect S1024x1024 := Rect.unit (s := S1024x1024) (rowOff r) S256x1024.size (row_inb r)

/-- Device `r`'s rows of the input, as device `s` reads them. -/
def rows (s r : Dev nD) : Vec F S256x1024 .f32 := (xM : Memref sig .tc .vmem S1024x1024 .f32).view.readAt (Elt F) (rowR r).toLoadRect (xstg m ρ s)

/-- Device `s`'s partial product for device `r`'s rows, -/
def part (s r : Dev nD) : FVec F S256x1024 .f32 := k0_pay6 (rows m ρ s r) (gstg m ρ s) (ustg m ρ s) (dstg m ρ s)
/-- and rounded for the wire. -/
def sent (s r : Dev nD) : FVec F S256x1024 .bf16 := truncf .bf16 (part m ρ s r) bitsLt_bf16_f32

/-- A block of 256 rows as one slot of a buffer of three. -/
def asSlot (w : Vec F S256x1024 .bf16) : Vec F S1x256x1024 .bf16 := shapeCast S1x256x1024 w shapeCasts_S256x1024_S1x256x1024

/-- The sum of the four partial products of device `r`'s rows, in the order the kernel adds them, -/
def acc (r : Dev nD) : FVec F S256x1024 .f32 :=
  k0_pay9 (k0_pay7 (part m ρ r r) (asSlot (sent m ρ (peer 0 r) r)) (asSlot (sent m ρ (peer 1 r) r))) (k0_pay8 (asSlot (sent m ρ (peer 2 r) r)))
/-- rounded for the wire, -/
def accs (r : Dev nD) : FVec F S256x1024 .bf16 := truncf .bf16 (acc m ρ r) bitsLt_bf16_f32
/-- and as another device writes it into its result. -/
def spread (r : Dev nD) : FVec F S256x1024 .f32 := extf .f32 (accs m ρ r) bitsLt_bf16_f32

set_option backward.proofsInPublic true in
/-- Which device's chunk a row lies in, -/
def chunkOf (i : S1024x1024.Idx) : Dev nD := ⟨(i 0).val / 256, by have h : (i 0).val < 1024 := (i 0).isLt; show _ < 4; omega⟩
set_option backward.proofsInPublic true in
/-- and where in the chunk. -/
def inChunk (i : S1024x1024.Idx) : S256x1024.Idx
  | 0 => ⟨(i 0).val % 256, Nat.mod_lt _ (by decide)⟩
  | 1 => ⟨(i 1).val, (i 1).isLt⟩
  | ⟨_ + 2, h⟩ => absurd h (Nat.not_lt.2 (Nat.le_add_left _ _))

/-- The result on device `c`. -/
def outAt (c : Dev nD) : (cc0_stg4_0 : Ref sig .tc).ty.Contents (Elt F) := fun i =>
  if chunkOf i = c then acc m ρ c (inChunk i) else spread m ρ (chunkOf i) (inChunk i)

/-! ## Reading and writing the buffers -/

/-- Two zero offsets. -/
theorem zero2 : (![0, 0] : Fin 2 → ℕ) = fun _ => 0 := funext fun a => by fin_cases a <;> rfl

/-- A load of the input at a chunk's offsets, however they are spelt, reads the chunk. -/
theorem read_rows (s r : Dev nD) {off : Fin 2 → ℕ} (h : off = rowOff r) (hi : ∀ a, off a + S256x1024.size a ≤ S1024x1024.size a) :
    (xM : Memref sig .tc .vmem S1024x1024 .f32).view.readAt (Elt F) (Rect.unit (s := S1024x1024) off S256x1024.size hi).toLoadRect (xstg m ρ s) = rows m ρ s r := by
  subst h; rfl

/-- A load of a whole weight reads it. -/
theorem read_gate (f : (cc0_stg1_0 : Ref sig .tc).ty.Contents (Elt F)) (hi : ∀ a, (![0, 0] : Fin 2 → ℕ) a + S1024x2048.size a ≤ S1024x2048.size a) :
    (gM : Memref sig .tc .vmem S1024x2048 .f32).view.readAt (Elt F) (Rect.unit (s := S1024x2048) ![0, 0] S1024x2048.size hi).toLoadRect f = f :=
  Memref.readAt_unit_zero (Elt F) cc0_stg1_0 zero2 _ f
theorem read_up (f : (cc0_stg2_0 : Ref sig .tc).ty.Contents (Elt F)) (hi : ∀ a, (![0, 0] : Fin 2 → ℕ) a + S1024x2048.size a ≤ S1024x2048.size a) :
    (uM : Memref sig .tc .vmem S1024x2048 .f32).view.readAt (Elt F) (Rect.unit (s := S1024x2048) ![0, 0] S1024x2048.size hi).toLoadRect f = f :=
  Memref.readAt_unit_zero (Elt F) cc0_stg2_0 zero2 _ f
theorem read_down (f : (cc0_stg3_0 : Ref sig .tc).ty.Contents (Elt F)) (hi : ∀ a, (![0, 0] : Fin 2 → ℕ) a + S2048x1024.size a ≤ S2048x1024.size a) :
    (dM : Memref sig .tc .vmem S2048x1024 .f32).view.readAt (Elt F) (Rect.unit (s := S2048x1024) ![0, 0] S2048x1024.size hi).toLoadRect f = f :=
  Memref.readAt_unit_zero (Elt F) cc0_stg3_0 zero2 _ f
/-- A store over the whole outgoing chunk leaves what was stored. -/
theorem write_src (f w : (cc0_scratch2 : Ref sig .tc).ty.Contents (Elt F)) (hi : ∀ a, (![0, 0] : Fin 2 → ℕ) a + S256x1024.size a ≤ S256x1024.size a) :
    ((srcM : Memref sig .tc .vmem S256x1024 .bf16).access (Rect.unit (s := S256x1024) ![0, 0] S256x1024.size hi) : View sig .tc _ _ _).write (Elt F) f w Finset.univ = w :=
  Memref.write_access_unit_zero_univ (Elt F) cc0_scratch2 zero2 _ f w

/-- A load of slot `q` through the whole buffer reads what the slot holds. -/
theorem load_slot (b : Memref sig .tc .vmem S3x256x1024 .bf16) (q : Fin 3) (f : b.view.ty.Contents (Elt F)) :
    b.view.readAt (Elt F) (slotR q).toLoadRect f = asSlot ((slot b q).view.read (Elt F) f) := by
  unfold asSlot
  rw [Memref.read_squeeze_slice b (slotR q) (fun _ => rfl) squeezes_S1x256x1024_S256x1024 shapeCasts_S1x256x1024_S256x1024 f]
  exact (shapeCast_shapeCast _ _ _).symm

/-- After a store of a block at slot `q`, the slot holds the block. -/
theorem store_slot (b : Memref sig .tc .vmem S3x256x1024 .bf16) (q : Fin 3) (f : b.view.ty.Contents (Elt F)) (w : Vec F S256x1024 .bf16) :
    (slot b q).view.read (Elt F) ((b.access (slotR q)).write (Elt F) f (asSlot w) Finset.univ) = w := by
  rw [Memref.read_squeeze_slice b (slotR q) (fun _ => rfl) squeezes_S1x256x1024_S256x1024 shapeCasts_S1x256x1024_S256x1024, View.readAt_rect,
    View.read_write_univ]
  exact shapeCast_shapeCast _ _ _

/-- A slot's elements are those of its rectangle. -/
theorem slot_set (b : Memref sig .tc .vmem S3x256x1024 .bf16) (q : Fin 3) : (slot b q).view.set = b.view.setOn (slotR q).set := by
  show ((b.view.slice (slotR q)).reshape S256x1024 _).set = _
  rw [View.set_reshape, View.set_slice]; rfl

/-- Where a row of device `r`'s chunk lies in the result. -/
theorem row_emb (r : Dev nD) (j : S256x1024.Idx) (a : Fin 2) :
    (((oM : Memref sig .tc .vmem S1024x1024 .f32).access (rowR r) : View sig .tc _ _ _).emb j a : ℕ) = rowOff r a + (j a).val :=
  ValueKit.view_emb_slice_whole_unit_val cc0_stg4_0 (rowOff r) S256x1024.size (row_inb r) j a

/-- A place of the result is in its own chunk, at the row the chunk counts. -/
theorem row_emb_inChunk (i : S1024x1024.Idx) :
    ((oM : Memref sig .tc .vmem S1024x1024 .f32).access (rowR (chunkOf i)) : View sig .tc _ _ _).emb (inChunk i) = i := by
  refine funext fun (a : Fin 2) => Fin.ext ((row_emb (chunkOf i) (inChunk i) a).trans ?_)
  have h0 : (i 0).val < 1024 := (i 0).isLt
  match a with
  | 0 => show 256 * ((i 0).val / 256) + (i 0).val % 256 = (i 0).val; omega
  | 1 => exact Nat.zero_add _

/-- A store of a chunk's rows into the result leaves the rest alone. -/
theorem write_chunk (r : Dev nD) {off : Fin 2 → ℕ} (h : off = rowOff r) (hi : ∀ a, off a + S256x1024.size a ≤ S1024x1024.size a)
    (f : (cc0_stg4_0 : Ref sig .tc).ty.Contents (Elt F)) (w : Vec F S256x1024 .f32) :
    ((oM : Memref sig .tc .vmem S1024x1024 .f32).access (Rect.unit (s := S1024x1024) off S256x1024.size hi) : View sig .tc _ _ _).write (Elt F) f w Finset.univ
      = fun i => if chunkOf i = r then w (inChunk i) else f i := by
  subst h
  refine funext fun (i : S1024x1024.Idx) => ?_
  show _ = if chunkOf i = r then w (inChunk i) else f i
  by_cases hc : chunkOf i = r
  · rw [if_pos hc]
    have he : ((oM : Memref sig .tc .vmem S1024x1024 .f32).access (rowR r) : View sig .tc _ _ _).emb (inChunk i) = i := by
      rw [← hc]; exact row_emb_inChunk i
    conv_lhs => rw [← he]
    exact View.write_emb_of_mem _ _ (Finset.mem_univ _)
  · rw [if_neg hc]
    refine View.write_of_not_mem _ _ _ fun hm => hc ?_
    obtain ⟨j, -, hj⟩ := Finset.mem_map.mp hm
    have h1 : (i 0).val = 256 * r.val + (j 0).val := by rw [← hj]; exact row_emb r j 0
    have hj0 : (j 0).val < 256 := (j 0).isLt
    exact Fin.ext (show (i 0).val / 256 = r.val by omega)

/-- The four stores a device makes cover its result. -/
theorem out_covered (c : Dev nD) (f : (cc0_stg4_0 : Ref sig .tc).ty.Contents (Elt F)) :
    (fun i => if chunkOf i = peer 2 c then spread m ρ (peer 2 c) (inChunk i) else if chunkOf i = peer 1 c then spread m ρ (peer 1 c) (inChunk i)
      else if chunkOf i = peer 0 c then spread m ρ (peer 0 c) (inChunk i) else if chunkOf i = c then acc m ρ c (inChunk i) else f i) = outAt m ρ c := by
  funext i
  unfold outAt
  have key : ∀ c d : Dev nD, d = peer 2 c ∨ d = peer 1 c ∨ d = peer 0 c ∨ d = c := by decide
  have hne : ∀ c : Dev nD, peer 1 c ≠ peer 2 c ∧ peer 0 c ≠ peer 2 c ∧ peer 0 c ≠ peer 1 c := by decide
  obtain ⟨h12, h02, h01⟩ := hne c
  generalize chunkOf i = d
  rcases key c d with rfl | rfl | rfl | rfl
  · rw [if_pos rfl, if_neg (peer_ne 2 c)]
  · rw [if_neg h12, if_pos rfl, if_neg (peer_ne 1 c)]
  · rw [if_neg h02, if_neg h01, if_pos rfl, if_neg (peer_ne 0 c)]
  · rw [if_neg (peer_ne 2 d).symm, if_neg (peer_ne 1 d).symm, if_neg (peer_ne 0 d).symm, if_pos rfl, if_pos rfl]

end Cert.Ffn

end
-- ==== Proof.Schedule.lean ====
/-
  The protocol: what each semaphore hands over, and in which order a device waits.

  Every semaphore of a device is used for one round. Its barrier takes one unit from each of the three peers, and with
  it that peer's two landing slots for this device. A transfer semaphore takes one transfer, and hands over what the
  transfer touched: on the sender its source back, on the receiver the slot with the contents that came.
-/
module

public import proofs.«01_k».proof.Proof.Contents

@[expose] public section

noncomputable section

namespace Cert.Ffn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
/-- The ghost state: the pipeline's beside that of the protocol, whose cells have three duties at most. -/
abbrev UB := URounds (GSem nD τ sig) (Fin 3)
/-- The two algebras of the proof: the launch's and the rounds'. -/
abbrev UU := UR sig nD τ × UB
local notation "𝕄" => MT nD τ sig Unit (Elt F) ℕ UU ℕ
/-- Where each of them lies. -/
abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## What the semaphores hand over -/

/-- Device `c` holds a block of 256 rows at share `q`, and the block reads `X`. -/
abbrev blk (c : Dev nD) (b : Memref sig .tc .vmem S256x1024 .bf16) (q : PosShare TreeShare) (X : Vec F S256x1024 .bf16) : sProp 𝕄 :=
  owns (Ix := Unit) (Name := ℕ) (U := UU) (Lvl := ℕ) (c : Thread nD τ) b q X

/-- A block whose contents do not matter. -/
def free (c : Dev nD) (b : Memref sig .tc .vmem S256x1024 .bf16) : sProp 𝕄 := iprop(∃ X, blk c b fullShare X)
/-- A buffer at any contents may be kept in a cell, -/
instance free_storable (c : Dev nD) (b) : BI.Storable (upEmb : UEmb _ 𝕄) (free (F := F) c b) := by unfold free; infer_instance

/-- The part of the outgoing chunk that each of its three transfers holds. -/
def third : Fin 3 → PosShare TreeShare
  | 0 => fullShare.left
  | 1 => fullShare.right.left
  | 2 => fullShare.right.right

/-- With its unit, the peer `rev p` of `d` hands `d` its slots `p` to land in. -/
def barPay (d : Dev nD) (p : Fin 3) : sProp 𝕄 :=
  iprop(free (peer (rev p) d) (slot rsM p) ∗ free (peer (rev p) d) (slot agM p))

/-- What semaphore `p` of group `a` of device `d` hands over. -/
def xferPay (d : Dev nD) (p : Fin 3) : Fin 4 → sProp 𝕄
  | 0 => blk d (slot stM p) fullShare (sent m ρ d (peer p d))
  | 1 => blk d (slot rsM p) fullShare (sent m ρ (peer p d) d)
  | 2 => blk d srcM (third p) (accs m ρ d)
  | 3 => blk d (slot agM p) fullShare (accs m ρ (peer p d))

/-- Which semaphore of the protocol a location is, if any. -/
def roleOf : SemLoc sig → Option (Option (Fin 4 × Fin 3))
  | .reg s => if s = barS then some none else none
  | .dma s => (kindOf s).map some

/-- The barrier's role, -/
theorem role_bar : roleOf (.reg barS) = some none := by unfold roleOf; exact if_pos rfl
/-- and a copy's. -/
theorem role_xfer (a : Fin 4) (p : Fin 3) : roleOf (.dma (xsem a p)) = some (some (a, p)) := by
  show (kindOf (xsem a p)).map some = _; rw [kindOf_xsem]; rfl

/-- The duties of a semaphore in its one round, -/
def dutiesOf : Option (Option (Fin 4 × Fin 3)) → Finset (Fin 3)
  | none => ∅
  | some none => Finset.univ
  | some (some _) => {0}
/-- and what each hands over. -/
def payOf (d : Dev nD) (j : Fin 3) : Option (Option (Fin 4 × Fin 3)) → sProp 𝕄
  | none => iprop(emp)
  | some none => barPay d j
  | some (some (a, p)) => xferPay m ρ d p a

/-- What a duty hands over may be kept in a cell, -/
instance payOf_storable (d : Dev nD) (j : Fin 3) (k) : BI.Storable (upEmb : UEmb _ 𝕄) (payOf (F := F) m ρ d j k) := by
  match k with
  | none => show BI.Storable upEmb (iprop(emp) : sProp 𝕄); infer_instance
  | some none => show BI.Storable upEmb (barPay d j : sProp 𝕄); unfold barPay; infer_instance
  | some (some (a, p)) =>
    match a with
    | 0 => show BI.Storable upEmb (blk d (slot stM p) fullShare (sent m ρ d (peer p d)) : sProp 𝕄); infer_instance
    | 1 => show BI.Storable upEmb (blk d (slot rsM p) fullShare (sent m ρ (peer p d) d) : sProp 𝕄); infer_instance
    | 2 => show BI.Storable upEmb (blk d srcM (third p) (accs m ρ d) : sProp 𝕄); infer_instance
    | 3 => show BI.Storable upEmb (blk d (slot agM p) fullShare (accs m ρ (peer p d)) : sProp 𝕄); infer_instance

/-- The schedule: one round, a barrier's three duties of one unit, a transfer semaphore's one duty of one transfer. -/
def Rd : Rounds.Schedule (GSem nD τ sig) (Fin 3) 𝕄 where
  duties g r := if r = 0 then dutiesOf (roleOf g.2) else ∅
  unitless _ := False
  amount g _ _ := if g.2 = .reg barS then 1 else N
  payload g _ j := payOf m ρ g.1.1 j (roleOf g.2)
  amount_pos g _ _ _ := by
    by_cases h : g.2 = .reg barS
    · rw [if_pos h]; exact Nat.one_pos
    · rw [if_neg h]; exact N_pos

/-- for every duty of the schedule. -/
instance Rd_storable (g : GSem nD τ sig) (r : ℕ) (j : Fin 3) : BI.Storable (upEmb : UEmb _ 𝕄) ((Rd (F := F) m ρ).payload g r j) :=
  payOf_storable m ρ g.1.1 j (roleOf g.2)

section Facts
variable (c : Dev nD) (a : Fin 4) (p : Fin 3)

/-- A copy's semaphore is not the barrier. -/
theorem xfer_ne_bar : (SemLoc.dma (xsem a p) : SemLoc sig) ≠ .reg barS := fun h => by cases h

/-- The schedule, read at the barrier and at a copy's cell: the duties, -/
theorem duties_bar : (Rd (F := F) m ρ).duties (barCell c) 0 = Finset.univ := by
  show (if (0 : ℕ) = 0 then dutiesOf (roleOf (.reg barS)) else ∅) = _; rw [if_pos rfl, role_bar]; rfl
theorem duties_xfer : (Rd (F := F) m ρ).duties (xcell a p c) 0 = {0} := by
  show (if (0 : ℕ) = 0 then dutiesOf (roleOf (.dma (xsem a p))) else ∅) = _; rw [if_pos rfl, role_xfer]; rfl
/-- No semaphore has a second round. -/
theorem duties_later (g : GSem nD τ sig) : ∀ r, 1 ≤ r → (Rd (F := F) m ρ).duties g r = ∅ :=
  fun r hr => by show (if r = 0 then dutiesOf (roleOf g.2) else ∅) = _; exact if_neg (by omega)

/-- the amount of each, -/
theorem amount_bar (j : Fin 3) : (Rd (F := F) m ρ).amount (barCell c) 0 j = 1 := by dsimp only [Rd]; exact if_pos rfl
theorem amount_xfer (j : Fin 3) : (Rd (F := F) m ρ).amount (xcell a p c) 0 j = N := by dsimp only [Rd]; exact if_neg (xfer_ne_bar a p)

/-- what a wait expects, -/
theorem expect_bar : (Rd (F := F) m ρ).expect (barCell c) 0 = 3 := by
  unfold Schedule.expect Schedule.amountOf
  rw [duties_bar, Finset.sum_congr rfl fun j _ => amount_bar m ρ c j, Finset.sum_const, Finset.card_univ, Fintype.card_fin, smul_eq_mul]
theorem expect_xfer : (Rd (F := F) m ρ).expect (xcell a p c) 0 = N := by
  unfold Schedule.expect Schedule.amountOf; rw [duties_xfer, Finset.sum_singleton, amount_xfer]

/-- and what is handed over. -/
theorem payload_bar (j : Fin 3) : (Rd (F := F) m ρ).payload (barCell c) 0 j = barPay c j := by
  show payOf m ρ c j (roleOf (.reg barS)) = _; rw [role_bar]; rfl
theorem payload_xfer (j : Fin 3) : (Rd (F := F) m ρ).payload (xcell a p c) 0 j = xferPay m ρ c p a := by
  show payOf m ρ c j (roleOf (.dma (xsem a p))) = _; rw [role_xfer]; rfl

/-- What a completed barrier wait hands over: two landing slots on each peer. -/
theorem rest_bar : bigSep ((Rd (F := F) m ρ).duties (barCell c) 0 \ ∅) (fun j => (Rd (F := F) m ρ).payload (barCell c) 0 j)
    = iprop(barPay c 0 ∗ barPay c 1 ∗ barPay c 2) := by
  rw [Finset.sdiff_empty, duties_bar, bigSep_univ_eq_bigSepL [0, 1, 2] (by decide) (by decide), bigSepL_cons_cons, bigSepL_cons_cons, bigSepL_singleton,
    payload_bar, payload_bar, payload_bar]
  rfl
/-- What a completed transfer wait hands over. -/
theorem rest_xfer : bigSep ((Rd (F := F) m ρ).duties (xcell a p c) 0 \ ∅) (fun j => (Rd (F := F) m ρ).payload (xcell a p c) 0 j) = xferPay m ρ c p a := by
  rw [Finset.sdiff_empty, duties_xfer, bigSep_singleton, payload_xfer]

end Facts

/-! ## What a device owes, and the order of waits -/

/-- What the device's transfers and signals pay, counted from the last: the all-gather's three transfers, the
    reduce-scatter's three, the three signals. Each count names the cell it pays -/
def dueCell (c : Dev nD) : ℕ → GSem nD τ sig
  | 0 => xcell 3 0 (peer 2 c)
  | 1 => xcell 3 1 (peer 1 c)
  | 2 => xcell 3 2 (peer 0 c)
  | 3 => xcell 1 0 (peer 2 c)
  | 4 => xcell 1 1 (peer 1 c)
  | 5 => xcell 1 2 (peer 0 c)
  | 6 => barCell (peer 2 c)
  | 7 => barCell (peer 1 c)
  | _ => barCell (peer 0 c)
/-- and how much it pays. -/
def dueAmt (n : ℕ) : ℕ := if n < 6 then N else 1

/-- What device `c` owes while its last `n` payments are to come. -/
def owing (c : Dev nD) : ℕ → CellTallies nD τ sig Unit
  | 0 => 0
  | n + 1 => owing c n + tallyAt (dueCell c n) () (dueAmt n)

/-- What is owed is owed to the cell of a due unit. -/
theorem owing_pos {c : Dev nD} {n : ℕ} {g : GSem nD τ sig} {u : Unit} (h : 0 < owing c n g u) : ∃ k, k < n ∧ g = dueCell c k := by
  induction n with
  | zero => exact absurd h (Nat.lt_irrefl 0)
  | succ n ih =>
    have h' : 0 < owing c n g u + tallyAt (dueCell c n) () (dueAmt n) g u := h
    by_cases hg : g = dueCell c n ∧ u = ()
    · exact ⟨n, Nat.lt_succ_self n, hg.1⟩
    · rw [tallyAt_apply, if_neg hg, Nat.add_zero] at h'
      obtain ⟨k, hk, e⟩ := ih h'
      exact ⟨k, Nat.lt_succ_of_lt hk, e⟩

/-- Every semaphore of a device's own counts for one index. -/
def L (g : GSem nD τ sig) : Finset Unit := if g.1.2 = .tc then {()} else ∅
/-- The order of waits: staging and sends, then the barrier, then the reduce-scatter's receives, then the all-gather's. -/
def rank : Option (Option (Fin 4 × Fin 3)) → ℕ
  | some none => 1
  | some (some (1, _)) => 2
  | some (some (3, _)) => 3
  | _ => 0
/-- A cell's level is its role's rank. -/
def lv (g : GSem nD τ sig) (_ : Unit) : ℕ := rank (roleOf g.2)

/-- Only the main cores' cells have levels, -/
theorem L_of_ne (g : GSem nD τ sig) (h : g.1.2 ≠ .tc) : L g = ∅ := if_neg h
/-- and each of those has one. -/
theorem L_tc (c : Dev nD) (sm : SemLoc sig) : L ((c : Thread nD τ), sm) = {()} := if_pos rfl

/-- The level of the barrier, -/
theorem lv_bar (c : Dev nD) (u : Unit) : lv (barCell c) u = 1 := by show rank (roleOf (.reg barS)) = 1; rw [role_bar]; rfl
/-- and of a copy's cell. -/
theorem lv_xfer (c : Dev nD) (a : Fin 4) (p : Fin 3) (u : Unit) : lv (xcell a p c) u = rank (some (some (a, p))) := by
  show rank (roleOf (.dma (xsem a p))) = _; rw [role_xfer]

/-- Every due unit is owed to a main core's cell, -/
theorem due_tc (c : Dev nD) (k : ℕ) : (dueCell c k).1.2 = .tc := by unfold dueCell; split <;> rfl
/-- of this level. -/
theorem due_level (c : Dev nD) (k : ℕ) (u : Unit) : lv (dueCell c k) u = if k < 3 then 3 else if k < 6 then 2 else 1 := by
  match k with
  | 0 | 1 | 2 | 3 | 4 | 5 => exact lv_xfer _ _ _ _
  | 6 | 7 => exact lv_bar _ _
  | n + 8 => rw [if_neg (by omega), if_neg (by omega)]; exact lv_bar _ _

/-- A device may wait at a semaphore below everything it owes. -/
theorem mayWait (c : Dev nD) (sm : SemLoc sig) (n : ℕ) (h : ∀ k, k < n → lv ((c : Thread nD τ), sm) () < lv (dueCell c k) ()) :
    (levAts L lv : sProp 𝕄) ⊢ MayWait (c : Thread nD τ) sm () (owing c n) := by
  refine MayOwe.of_cut (L := L) (lev := lv) (lv ((c : Thread nD τ), sm) ())
    (fun p hp => by rw [Finset.mem_singleton.mp hp, L_tc]; exact Finset.mem_singleton_self _)
    (fun g u hg => by obtain ⟨k, -, rfl⟩ := owing_pos hg; unfold L; rw [if_pos (due_tc c k)]; exact Finset.mem_singleton_self _)
    (fun p hp => by rw [Finset.mem_singleton.mp hp])
    (fun g u hg => by obtain ⟨k, hk, rfl⟩ := owing_pos hg; exact h k hk)

/-- At the barrier it owes transfers only. -/
theorem mayWait_bar (c : Dev nD) : (levAts L lv : sProp 𝕄) ⊢ MayWait (c : Thread nD τ) (.reg barS) () (owing c 6) :=
  mayWait c _ 6 fun k hk => by rw [due_level]; show lv (barCell c) () < _; rw [lv_bar]; (repeat' split) <;> omega
/-- At the reduce-scatter's receives it owes the all-gather's transfers only. -/
theorem mayWait_rs (c : Dev nD) (p : Fin 3) : (levAts L lv : sProp 𝕄) ⊢ MayWait (c : Thread nD τ) (.dma (xsem 1 p)) () (owing c 3) :=
  mayWait c _ 3 fun k hk => by rw [due_level, if_pos hk]; show lv (xcell 1 p c) () < _; rw [lv_xfer]; show 2 < 3; omega
/-- At staging it may owe anything. -/
theorem mayWait_stage (c : Dev nD) (q : DmaSem sig) (hq : kindOf q = none) (n : ℕ) :
    (levAts L lv : sProp 𝕄) ⊢ MayWait (c : Thread nD τ) (.dma q) () (owing c n) :=
  mayWait c _ n fun k _ => by
    rw [due_level]; show rank ((kindOf q).map some) < _; rw [hq]; show 0 < _; (repeat' split) <;> omega

end Cert.Ffn

end
-- ==== Proof.Steps.lean ====
/-
  The kernel's steps, each stated once for every peer: a signal, the barrier wait, a transfer of a partial product, a
  transfer of a reduced chunk, a wait for a transfer, a load and a store of a slot.
-/
module

public import proofs.«01_k».proof.Proof.Schedule

@[expose] public section

noncomputable section

namespace Cert.Ffn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

/-- The kernel's only call has no variants. -/
abbrev 𝒱₀ : Variants := Variants.none

/-- A program run on device `c` to a result in `Q`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Every cell of the protocol. -/
abbrev Key := Dev nD × Option (Fin 4 × Fin 3)

/-- What every device may use at any time: each cell's invariant, and that each is at its round. -/
def records (K : Key → ℕ) : sProp 𝕄 :=
  iprop(bigSep Finset.univ (fun ck => cellInv ER (Rd m ρ) (K ck) (kcell ck)) ∗ bigSep Finset.univ (fun ck : Key => reached ER (kcell ck) 0))
/-- The records are never used up. -/
instance records_persistent (K : Key → ℕ) : BI.Persistent (records m ρ K) := by unfold records; infer_instance

/-- They give each cell's invariant -/
theorem records_inv (K : Key → ℕ) (ck : Key) : records m ρ K ⊢ cellInv ER (Rd m ρ) (K ck) (kcell ck) := by
  unfold records; exact sep_elim_left.trans (bigSep_elim (Finset.mem_univ ck))
/-- and its first round, -/
theorem records_at (K : Key → ℕ) (ck : Key) : records m ρ K ⊢ reached ER (kcell ck) 0 := by
  unfold records; exact sep_elim_right.trans (bigSep_elim (Finset.mem_univ ck))

/-- the barrier's and the copies' by name. -/
theorem inv_bar (K : Key → ℕ) (c : Dev nD) : records m ρ K ⊢ cellInv ER (Rd m ρ) (K (c, none)) (barCell c) := records_inv m ρ K (c, none)
theorem inv_xfer (K : Key → ℕ) (a : Fin 4) (p : Fin 3) (c : Dev nD) : records m ρ K ⊢ cellInv ER (Rd m ρ) (K (c, some (a, p))) (xcell a p c) :=
  records_inv m ρ K (c, some (a, p))
theorem at_bar (K : Key → ℕ) (c : Dev nD) : records m ρ K ⊢ reached ER (barCell c) 0 := records_at m ρ K (c, none)
theorem at_xfer (K : Key → ℕ) (a : Fin 4) (p : Fin 3) (c : Dev nD) : records m ρ K ⊢ reached ER (xcell a p c) 0 := records_at m ρ K (c, some (a, p))

/-- What device `c` owes, `n` payments to come, whatever waits it has made. -/
def owe (c : Dev nD) (n : ℕ) : sProp 𝕄 := iprop(∃ W, owes (c : Thread nD τ) (owing c n) W)

/-- A signal to peer `p`: the peer's barrier gets the unit and this device's slots `p`. -/
theorem step_signal (K : Key → ℕ) (c n : Dev nD) (p : Fin 3) (hn : n = peer p c) (i : ℕ) (hi : dueCell c i = barCell (peer p c)) (hu : dueAmt i = 1)
    {k' : ℕ} (hk : k' = 1) {α : Type} {Q : α → sProp 𝕄} {k : PUnit.{1} → Prog (TpuEff nD τ sig (Elt F) Λ₀ .tc) α} :
    iprop(records m ρ K ∗ owe c (i + 1) ∗ dutyTok ER (barCell (peer p c)) 0 p ∗ free c (slot rsM p) ∗ free c (slot agM p))
      ⊢ iprop((owe c i -∗ run c (k ⟨⟩) Q) -∗ run c (.op (.semSignal (Dev.tc n : Thread nD τ) barS k') k) Q) := by
  subst hn; subst hk
  unfold owe
  iintro ⟨#HR, ⟨%W, HO⟩, Ht, Hrs, Hag⟩ Hk
  iapply (Rounds.wp_signal 𝒱₀ ER (Rd m ρ) (c : Thread nD τ) none (dst := (peer p c : Thread nD τ)) (κ := K (peer p c, none))
      (d := p) (by rw [duties_bar]; exact Finset.mem_univ _) (amount_bar m ρ (peer p c) p) () (owing c i)
      (show owing c (i + 1) = _ by rw [owing, hi, hu])) $$ [HO Ht Hrs Hag]
  · isplitr; · iapply (inv_bar m ρ K (peer p c)); iexact HR
    isplitl [HO]; · iexact HO
    isplitl [Ht]; · iexact Ht
    isplitl [Hrs Hag]
    · rw [payload_bar]; unfold barPay; rw [peer_rev_peer]
      isplitl [Hrs] <;> iassumption
    iapply (at_bar m ρ K (peer p c)); iexact HR
  iintro HO
  iapply Hk; iexists W; iexact HO

/-- The barrier wait: two landing slots on each peer, and the barrier's counter back at zero. -/
theorem step_barrier (K : Key → ℕ) (c : Dev nD) {k' : ℕ} (hk : k' = 3) {α : Type} {Q : α → sProp 𝕄} {k : PUnit.{1} → Prog (TpuEff nD τ sig (Elt F) Λ₀ .tc) α} :
    iprop(records m ρ K ∗ levAts L lv ∗ owe c 6 ∗ cred (tallyAt (barCell c) () 3) ∗ atPos ER (barCell c) 0 ∅ 0)
      ⊢ iprop(((owe c 6 ∗ semVal (barCell c) 0 ∗ barPay c 0 ∗ barPay c 1 ∗ barPay c 2) -∗ run c (k ⟨⟩) Q)
          -∗ run c (.op (.semWait barS k') k) Q) := by
  subst hk
  unfold owe
  iintro ⟨#HR, #Hlev, ⟨%W, HO⟩, Hc, Hat⟩ Hk
  iapply (Rounds.wp_wait_rest_token 𝒱₀ ER (Rd m ρ) (c : Thread nD τ) none (κ := K (c, none))
      (wpE_semWait_eq 𝒱₀ (c : Thread nD τ) none Set.univ) (Set.mem_univ _) () (O := owing c 6) (W := W) (R := 0) (m := 0) (T := ∅)
      (by rw [expect_bar])) $$ [Hc HO Hat]
  · isplitr; · iapply (inv_bar m ρ K c); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  imod (Rounds.cell_close ER (Rd m ρ) (Set.mem_univ (K (c, none))) (fun h => h) (R := 0 + 1) (duties_later m ρ (barCell c))) $$ [Hat] with Hz
  · isplitr; · iapply (inv_bar m ρ K c); iexact HR
    iexact Hat
  iapply Hk
  isplitl [HO]; · iexists (insert (SemLoc.reg barS, ()) W); iexact HO
  isplitl [Hz]; · iexact Hz
  iexact Hp

/-- A wait for a transfer: what it hands over, and the semaphore's counter back at zero. -/
theorem step_wait (K : Key → ℕ) (c : Dev nD) (a : Fin 4) (p : Fin 3) (n : ℕ)
    (hw : (levAts L lv : sProp 𝕄) ⊢ MayWait (c : Thread nD τ) (.dma (xsem a p)) () (owing c n))
    {src dst : Memref sig .tc .vmem S256x1024 .bf16} {hs : src.view.WordExact} {hd : dst.view.WordExact} (hc : dst.view.dmaCredit = N)
    {α : Type} {Q : α → sProp 𝕄} {k : PUnit.{1} → Prog (TpuEff nD τ sig (Elt F) Λ₀ .tc) α} :
    iprop(records m ρ K ∗ levAts L lv ∗ owe c n ∗ cred (tallyAt (xcell a p c) () N) ∗ atPos ER (xcell a p c) 0 ∅ 0)
      ⊢ iprop(((owe c n ∗ semVal (xcell a p c) 0 ∗ xferPay m ρ c p a) -∗ run c (k ⟨⟩) Q)
          -∗ run c (.op (.waitDma2 (xsem a p) src dst hs hd) k) Q) := by
  unfold owe
  iintro ⟨#HR, #Hlev, ⟨%W, HO⟩, Hc, Hat⟩ Hk
  iapply (Rounds.wp_wait_rest_token 𝒱₀ ER (Rd m ρ) (c : Thread nD τ) none (κ := K (c, some (a, p)))
      (wpE_waitDma2_eq 𝒱₀ (c : Thread nD τ) none Set.univ) (Set.mem_univ _) () (O := owing c n) (W := W) (R := 0) (m := 0) (T := ∅)
      (by rw [Nat.zero_add, hc, expect_xfer])) $$ [Hc HO Hat]
  · isplitr; · iapply (inv_xfer m ρ K a p c); iexact HR
    isplitl [Hc]; · rw [hc]; iexact Hc
    isplitl [HO]; · iexact HO
    isplitr; · iapply hw; iexact Hlev
    iexact Hat
  iintro ⟨HO, Hat, -, Hpay⟩
  ihave Hp := (Entails.of_eq (rest_xfer m ρ c a p)) $$ Hpay
  imod (Rounds.cell_close ER (Rd m ρ) (Set.mem_univ (K (c, some (a, p)))) (fun h => h) (R := 0 + 1) (duties_later m ρ (xcell a p c))) $$ [Hat] with Hz
  · isplitr; · iapply (inv_xfer m ρ K a p c); iexact HR
    iexact Hat
  iapply Hk
  isplitl [HO]; · iexists (insert (SemLoc.dma (xsem a p), ()) W); iexact HO
  isplitl [Hz]; · iexact Hz
  iexact Hp

/-- A transfer to peer `p`, from a block that reads `X` at share `q` to a block of the peer's. The sender's semaphore
    takes the source, the receiver's the destination reading `X`. -/
theorem step_send (K : Key → ℕ) (c n : Dev nD) (a b : Fin 4) (p : Fin 3) (hn : n = peer p c) (i : ℕ)
    (hi : dueCell c i = xcell b (rev p) (peer p c)) (hu : dueAmt i = N)
    (src dst : Memref sig .tc .vmem S256x1024 .bf16) (q : PosShare TreeShare) (X : Vec F S256x1024 .bf16)
    (h₁ : blk c src q X = xferPay m ρ c p a) (h₂ : blk (peer p c) dst fullShare X = xferPay m ρ (peer p c) (rev p) b) (hN : dst.view.dmaCredit = N)
    {hsc : (dst : Memref sig (Dev.tc n : Thread nD τ).2.kind .vmem S256x1024 .bf16).view.ref.isScScratch = false}
    {hsrc : src.view.WordExact} {hdst : dst.view.WordExact}
    {hsem : DmaTarget.Typed .vmem (.dma (xsem b (rev p))) (.remote (Dev.tc n : Thread nD τ) dst (.dma (xsem a p)) hsc)}
    {α : Type} {Q : α → sProp 𝕄} {k : PUnit.{1} → Prog (TpuEff nD τ sig (Elt F) Λ₀ .tc) α} :
    iprop(records m ρ K ∗ owe c (i + 1) ∗ blk c src q X ∗ free (peer p c) dst ∗ dutyTok ER (xcell a p c) 0 0 ∗ dutyTok ER (xcell b (rev p) (peer p c)) 0 0)
      ⊢ iprop(((owe c i ∗ cred (tallyAt (xcell a p c) () N)) -∗ run c (k ⟨⟩) Q)
          -∗ run c (.op (.enqueueDma src (.remote (Dev.tc n : Thread nD τ) dst (.dma (xsem a p)) hsc) (.dma (xsem b (rev p))) hsrc hdst hsem) k) Q) := by
  subst hn
  unfold owe free
  iintro ⟨#HR, ⟨%W, HO⟩, Hsrc, ⟨%Y, Hdst⟩, Ht₁, Ht₂⟩ Hk
  ihave Hs := (show blk c src q X ⊢ iprop(∃ f, ⌜src.view.read (Elt F) f = X⌝ ∗ (src.view.loc (c : Thread nD τ) ↦[src.view.set]{q} f)) from .rfl) $$ Hsrc
  icases Hs with ⟨%fs, %hfs, Hsrc⟩
  ihave Hd := (show blk (peer p c) dst fullShare Y ⊢ iprop(∃ f, ⌜dst.view.read (Elt F) f = Y⌝ ∗ (dst.view.loc (peer p c : Thread nD τ) ↦[dst.view.set]{fullShare} f)) from .rfl) $$ Hdst
  icases Hd with ⟨%fd, %hfd, Hdst⟩
  iapply (Rounds.wp_send_pointsTo 𝒱₀ ER (Rd m ρ) (c : Thread nD τ) none (κ₁ := K (c, some (a, p))) (κ₂ := K (peer p c, some (b, rev p)))
    (r₁ := 0) (r₂ := 0) (d₁ := 0) (d₂ := 0) (fs := fs) (fd := fd)
    (by rw [duties_xfer]; exact Finset.mem_singleton_self _) (by rw [duties_xfer]; exact Finset.mem_singleton_self _)
    () () N (show dst.view.amount (.dma (xsem b (rev p))) = N from hN) (amount_xfer m ρ c a p 0) (amount_xfer m ρ (peer p c) b (rev p) 0) (owing c i) (show owing c (i + 1) = _ by rw [owing, hi, hu]) (W := W)
    (by rw [payload_xfer, ← h₁, ← hfs]; exact owns_intro (c : Thread nD τ) src q fs)
    (by
      rw [payload_xfer, ← h₂, ← hfs]
      refine (owns_intro (peer p c : Thread nD τ) dst fullShare _).trans (Entails.of_eq ?_)
      rw [View.read_write_univ])) $$ [Hsrc Hdst HO Ht₁ Ht₂]
  · isplitr; · iapply (inv_xfer m ρ K a p c); iexact HR
    isplitr; · iapply (inv_xfer m ρ K b (rev p) (peer p c)); iexact HR
    isplitl [Hsrc]; · iexact Hsrc
    isplitl [Hdst]; · iexact Hdst
    isplitl [HO]; · iexact HO
    isplitl [Ht₁]; · iexact Ht₁
    isplitr; · iapply (at_xfer m ρ K a p c); iexact HR
    isplitl [Ht₂]; · iexact Ht₂
    iapply (at_xfer m ρ K b (rev p) (peer p c)); iexact HR
  iintro ⟨Hc, HO⟩
  iapply Hk
  isplitl [HO]; · iexists W; iexact HO
  iexact Hc

/-- A load of a slot reads what the slot holds. -/
theorem step_load_slot (c : Dev nD) (b : Memref sig .tc .vmem S3x256x1024 .bf16) (q : Fin 3) (X : Vec F S256x1024 .bf16)
    {hl : b.view.LoadsAt (slotR q).toLoadRect} {α : Type} {Q : α → sProp 𝕄}
    {k : ((slotR q).shape.Idx → Elt F .bf16) → Prog (TpuEff nD τ sig (Elt F) Λ₀ .tc) α} :
    blk c (slot b q) fullShare X
      ⊢ iprop((blk c (slot b q) fullShare X -∗ run c (k (asSlot X)) Q) -∗ run c (.op (.load b (slotR q).toLoadRect hl) k) Q) := by
  iintro H Hk
  ihave H' := (show blk c (slot b q) fullShare X ⊢ iprop(∃ f, ⌜(slot b q).view.read (Elt F) f = X⌝ ∗ (b.view.loc (c : Thread nD τ) ↦[(slot b q).view.set]{fullShare} f)) from .rfl) $$ H
  icases H' with ⟨%f, %hf, H⟩
  iapply (wp_load 𝒱₀ (c : Thread nD τ) none Set.univ (m := b) (r := (slotR q).toLoadRect) (S := (slot b q).view.set) (q := fullShare) (f := f)
    (by rw [slot_set])) $$ H
  iintro H
  rw [load_slot b q f, hf]
  iapply Hk
  rw [← hf]
  iapply (owns_intro (c : Thread nD τ) (slot b q) fullShare f); iexact H

/-- A store of a block into a slot. -/
theorem step_store_slot (c : Dev nD) (b : Memref sig .tc .vmem S3x256x1024 .bf16) (q : Fin 3) (X : Vec F S256x1024 .bf16)
    {w : (slotR q).shape.Idx → Elt F .bf16} (hw : w = asSlot X)
    {hx : (b.access (slotR q)).Stores Finset.univ} {hm : (Finset.univ : Finset (slotR q).shape.Idx) = Finset.univ ∨ ∀ a, (slotR q).stride a = 1}
    {α : Type} {Q : α → sProp 𝕄} {k : PUnit.{1} → Prog (TpuEff nD τ sig (Elt F) Λ₀ .tc) α} :
    free c (slot b q)
      ⊢ iprop((blk c (slot b q) fullShare X -∗ run c (k ⟨⟩) Q) -∗ run c (.op (.store b (slotR q) w Finset.univ hx hm) k) Q) := by
  subst hw
  unfold free
  iintro ⟨%Y, H⟩ Hk
  ihave H' := (show blk c (slot b q) fullShare Y ⊢ iprop(∃ f, ⌜(slot b q).view.read (Elt F) f = Y⌝ ∗ ((b.access (slotR q)).loc (c : Thread nD τ) ↦[(slot b q).view.set]{fullShare} f)) from .rfl) $$ H
  icases H' with ⟨%f, %hf, H⟩
  iapply (wp_store 𝒱₀ (c : Thread nD τ) none Set.univ (m := b) (r := slotR q) (Mk := Finset.univ) (S := (slot b q).view.set) (f := f)
    (by rw [slot_set, View.setOn_univ, View.set_slice]; exact subset_rfl)) $$ H
  iintro H
  iapply Hk
  refine (owns_intro (c : Thread nD τ) (slot b q) fullShare ((b.access (slotR q)).write (Elt F) f (asSlot X) Finset.univ)).trans (Entails.of_eq ?_)
  rw [store_slot]

end Cert.Ffn

end
-- ==== Proof.Exchange.lean ====
/-
  The first half of the kernel on device `c`, one lemma per stretch of the program: the barrier, then the partial
  products for the three peers, sent as they are made, then the device's own.
-/
module

public import proofs.«01_k».proof.Proof.Steps

@[expose] public section

noncomputable section

namespace Cert.Ffn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

/-- Device `c` holds the whole of buffer `b`, at contents `f`. -/
abbrev pts (c : Dev nD) (b : Ref sig .tc) (f : Buf (Elt F) ((c : Thread nD τ).loc b)) : sProp 𝕄 := ((c : Thread nD τ).loc b) ↦{fullShare} f

/-- The staged operands. -/
def ops (c : Dev nD) : sProp 𝕄 :=
  iprop(pts c cc0_stg0_0 (xstg m ρ c) ∗ pts c cc0_stg1_0 (gstg m ρ c) ∗ pts c cc0_stg2_0 (ustg m ρ c) ∗ pts c cc0_stg3_0 (dstg m ρ c))

/-- The end of a stretch. -/
theorem step_ret (c : Dev nD) {α : Type} {Q : α → sProp 𝕄} {a : α} : Q a ⊢ run (F := F) c (.ret a) Q := le_wp_ret _ _ _ _ _

/-- The loads of a chunk's rows and of the first weight. -/
theorem step_rows_gate (c r : Dev nD) {off : Fin 2 → ℕ} (h : off = rowOff r) {hi : ∀ a, off a + S256x1024.size a ≤ S1024x1024.size a}
    {hg : ∀ a, (![0, 0] : Fin 2 → ℕ) a + S1024x2048.size a ≤ S1024x2048.size a}
    {hl₀ : (xM : Memref sig .tc .vmem S1024x1024 .f32).view.LoadsAt (Rect.unit (s := S1024x1024) off S256x1024.size hi).toLoadRect}
    {hl₁ : (gM : Memref sig .tc .vmem S1024x2048 .f32).view.LoadsAt (Rect.unit (s := S1024x2048) ![0, 0] S1024x2048.size hg).toLoadRect}
    {α : Type} {Q : α → sProp 𝕄} {k : Vec F S256x1024 .f32 → Vec F S1024x2048 .f32 → Prog (TpuEff nD τ sig (Elt F) Λ₀ .tc) α} :
    ops m ρ c ⊢ iprop((ops m ρ c -∗ run c (k (rows m ρ c r) (gstg m ρ c)) Q)
      -∗ run c (.op (.load xM (Rect.unit (s := S1024x1024) off S256x1024.size hi).toLoadRect hl₀) fun x =>
          .op (.load gM (Rect.unit (s := S1024x2048) ![0, 0] S1024x2048.size hg).toLoadRect hl₁) fun g => k x g) Q) := by
  unfold ops
  iintro ⟨Hx, Hg, Hu, Hd⟩ Hk
  iapply (wp_load 𝒱₀ (c : Thread nD τ) none Set.univ (m := xM) (Finset.subset_univ _)) $$ Hx; iintro Hx
  rw [read_rows m ρ c r h]
  iapply (wp_load 𝒱₀ (c : Thread nD τ) none Set.univ (m := gM) (Finset.subset_univ _)) $$ Hg; iintro Hg
  rw [read_gate]
  iapply Hk
  isplitl [Hx]; · iexact Hx
  isplitl [Hg]; · iexact Hg
  isplitl [Hu] <;> iassumption

/-- The loads of the other two weights. -/
theorem step_up_down (c : Dev nD) {hu : ∀ a, (![0, 0] : Fin 2 → ℕ) a + S1024x2048.size a ≤ S1024x2048.size a}
    {hd : ∀ a, (![0, 0] : Fin 2 → ℕ) a + S2048x1024.size a ≤ S2048x1024.size a}
    {hl₂ : (uM : Memref sig .tc .vmem S1024x2048 .f32).view.LoadsAt (Rect.unit (s := S1024x2048) ![0, 0] S1024x2048.size hu).toLoadRect}
    {hl₃ : (dM : Memref sig .tc .vmem S2048x1024 .f32).view.LoadsAt (Rect.unit (s := S2048x1024) ![0, 0] S2048x1024.size hd).toLoadRect}
    {α : Type} {Q : α → sProp 𝕄} {k : Vec F S1024x2048 .f32 → Vec F S2048x1024 .f32 → Prog (TpuEff nD τ sig (Elt F) Λ₀ .tc) α} :
    ops m ρ c ⊢ iprop((ops m ρ c -∗ run c (k (ustg m ρ c) (dstg m ρ c)) Q)
      -∗ run c (.op (.load uM (Rect.unit (s := S1024x2048) ![0, 0] S1024x2048.size hu).toLoadRect hl₂) fun u =>
          .op (.load dM (Rect.unit (s := S2048x1024) ![0, 0] S2048x1024.size hd).toLoadRect hl₃) fun d => k u d) Q) := by
  unfold ops
  iintro ⟨Hx, Hg, Hu, Hd⟩ Hk
  iapply (wp_load 𝒱₀ (c : Thread nD τ) none Set.univ (m := uM) (Finset.subset_univ _)) $$ Hu; iintro Hu
  rw [read_up]
  iapply (wp_load 𝒱₀ (c : Thread nD τ) none Set.univ (m := dM) (Finset.subset_univ _)) $$ Hd; iintro Hd
  rw [read_down]
  iapply Hk
  isplitl [Hx]; · iexact Hx
  isplitl [Hg]; · iexact Hg
  isplitl [Hu] <;> iassumption

/-- A load of a slot whose contents do not matter, then a store of a block there. -/
theorem step_fill (c : Dev nD) (b : Memref sig .tc .vmem S3x256x1024 .bf16) (q : Fin 3) (X : Vec F S256x1024 .bf16)
    {w : (slotR q).shape.Idx → Elt F .bf16} (hw : w = asSlot X) {hl : b.view.LoadsAt (slotR q).toLoadRect}
    {hx : (b.access (slotR q)).Stores Finset.univ} {hm : (Finset.univ : Finset (slotR q).shape.Idx) = Finset.univ ∨ ∀ a, (slotR q).stride a = 1}
    {α : Type} {Q : α → sProp 𝕄} {k : PUnit.{1} → Prog (TpuEff nD τ sig (Elt F) Λ₀ .tc) α} :
    free c (slot b q)
      ⊢ iprop((blk c (slot b q) fullShare X -∗ run c (k ⟨⟩) Q)
          -∗ run c (.op (.load b (slotR q).toLoadRect hl) fun _ => .op (.store b (slotR q) w Finset.univ hx hm) k) Q) := by
  unfold free
  iintro ⟨%Y, H⟩ Hk
  iapply (step_load_slot c b q Y) $$ H
  iintro H
  iapply (step_store_slot c b q X hw) $$ [H]
  · unfold free; iexists Y; iexact H
  iexact Hk

/-- A transfer of the partial product for peer `p` to that peer. -/
theorem step_send_part (K : Key → ℕ) (c n : Dev nD) (p : Fin 3) (hn : n = peer p c) (i : ℕ)
    (hi : dueCell c i = xcell 1 (rev p) (peer p c)) (hu : dueAmt i = N)
    {hsc : (slot rsM (rev p) : Memref sig (Dev.tc n : Thread nD τ).2.kind .vmem S256x1024 .bf16).view.ref.isScScratch = false}
    {hsrc : (slot stM p).view.WordExact} {hdst : (slot rsM (rev p)).view.WordExact}
    {hsem : DmaTarget.Typed .vmem (.dma (xsem 1 (rev p))) (.remote (Dev.tc n : Thread nD τ) (slot rsM (rev p)) (.dma (xsem 0 p)) hsc)}
    {α : Type} {Q : α → sProp 𝕄} {k : PUnit.{1} → Prog (TpuEff nD τ sig (Elt F) Λ₀ .tc) α} :
    iprop(records m ρ K ∗ owe c (i + 1) ∗ blk c (slot stM p) fullShare (sent m ρ c (peer p c)) ∗ free (peer p c) (slot rsM (rev p))
        ∗ dutyTok ER (xcell 0 p c) 0 0 ∗ dutyTok ER (xcell 1 (rev p) (peer p c)) 0 0)
      ⊢ iprop(((owe c i ∗ cred (tallyAt (xcell 0 p c) () N)) -∗ run c (k ⟨⟩) Q)
          -∗ run c (.op (.enqueueDma (slot stM p) (.remote (Dev.tc n : Thread nD τ) (slot rsM (rev p)) (.dma (xsem 0 p)) hsc) (.dma (xsem 1 (rev p))) hsrc hdst hsem) k) Q) :=
  step_send m ρ K c n 0 1 p hn i hi hu (slot stM p) (slot rsM (rev p)) fullShare (sent m ρ c (peer p c)) rfl
    (by show _ = blk (peer p c) (slot rsM (rev p)) fullShare (sent m ρ (peer (rev p) (peer p c)) (peer p c)); rw [peer_rev_peer])
    (credit_slot_rs (rev p))

/-- A transfer of this device's reduced chunk to peer `p`. -/
theorem step_send_acc (K : Key → ℕ) (c n : Dev nD) (p : Fin 3) (hn : n = peer p c) (i : ℕ)
    (hi : dueCell c i = xcell 3 (rev p) (peer p c)) (hu : dueAmt i = N)
    {hsc : (slot agM (rev p) : Memref sig (Dev.tc n : Thread nD τ).2.kind .vmem S256x1024 .bf16).view.ref.isScScratch = false}
    {hsrc : (srcM : Memref sig .tc .vmem S256x1024 .bf16).view.WordExact} {hdst : (slot agM (rev p)).view.WordExact}
    {hsem : DmaTarget.Typed .vmem (.dma (xsem 3 (rev p))) (.remote (Dev.tc n : Thread nD τ) (slot agM (rev p)) (.dma (xsem 2 p)) hsc)}
    {α : Type} {Q : α → sProp 𝕄} {k : PUnit.{1} → Prog (TpuEff nD τ sig (Elt F) Λ₀ .tc) α} :
    iprop(records m ρ K ∗ owe c (i + 1) ∗ blk c srcM (third p) (accs m ρ c) ∗ free (peer p c) (slot agM (rev p))
        ∗ dutyTok ER (xcell 2 p c) 0 0 ∗ dutyTok ER (xcell 3 (rev p) (peer p c)) 0 0)
      ⊢ iprop(((owe c i ∗ cred (tallyAt (xcell 2 p c) () N)) -∗ run c (k ⟨⟩) Q)
          -∗ run c (.op (.enqueueDma srcM (.remote (Dev.tc n : Thread nD τ) (slot agM (rev p)) (.dma (xsem 2 p)) hsc) (.dma (xsem 3 (rev p))) hsrc hdst hsem) k) Q) :=
  step_send m ρ K c n 2 3 p hn i hi hu srcM (slot agM (rev p)) (third p) (accs m ρ c) rfl
    (by show _ = blk (peer p c) (slot agM (rev p)) fullShare (accs m ρ (peer (rev p) (peer p c))); rw [peer_rev_peer])
    (credit_slot_ag (rev p))

/-! ## The barrier -/

/-- The two landing slots of device `c` for peer `p`. -/
def slots (c : Dev nD) (p : Fin 3) : sProp 𝕄 := iprop(free c (slot rsM p) ∗ free c (slot agM p))

/-- What a signal brings a device is the two slots its sender lends. -/
theorem barPay_eq (d : Dev nD) (p : Fin 3) : barPay (F := F) d p = slots (peer (rev p) d) p := rfl

/-- The first two signals. -/
theorem part1_run (K : Key → ℕ) (c : Dev nD) (Kt : (Σ' (_ : Dev nD) (_ : BitVec 32) (_ : Sems sig S_), BitVec 32) → sProp 𝕄) :
    iprop(records m ρ K ∗ owe c 9 ∗ dutyTok ER (barCell (peer 0 c)) 0 0 ∗ dutyTok ER (barCell (peer 1 c)) 0 1 ∗ slots c 0 ∗ slots c 1
        ∗ (∀ v : BitVec 32, owe c 7 -∗ Kt ⟨c, v, SemArray.scalar (sig.barrier 0 rfl), 1#32⟩))
      ⊢ run c (k0_part1 (F := F) xM (Memref.isWhole_whole _) gM (Memref.isWhole_whole _) uM (Memref.isWhole_whole _) dM (Memref.isWhole_whole _)
          oM (Memref.isWhole_whole _) stM (Memref.isWhole_whole _) rsM (Memref.isWhole_whole _) srcM (Memref.isWhole_whole _) agM (Memref.isWhole_whole _)
          cc0_scratch4 cc0_scratch5 cc0_scratch6 cc0_scratch7) Kt := by
  simp only [k0_part1_eq_skeleton]; unfold k0_part1_skel
  simp only [semSignalWord, Prog.lift, Prog.bind_op, Prog.bind_ret, Prog.pure_eq_ret, Prog.bind_assoc, wp_deviceId]
  unfold slots
  iintro ⟨#HR, HO, Ht0, Ht1, ⟨Hr0, Ha0⟩, ⟨Hr1, Ha1⟩, Hk⟩
  iapply (step_signal m ρ K c _ 0 (dev1_eq c) 8 rfl rfl rfl) $$ [HO Ht0 Hr0 Ha0]
  · isplitr; · iexact HR
    isplitl [HO]; · iexact HO
    isplitl [Ht0]; · iexact Ht0
    isplitl [Hr0] <;> iassumption
  iintro HO
  iapply (step_signal m ρ K c _ 1 (dev2_eq c) 7 rfl rfl rfl) $$ [HO Ht1 Hr1 Ha1]
  · isplitr; · iexact HR
    isplitl [HO]; · iexact HO
    isplitl [Ht1]; · iexact Ht1
    isplitl [Hr1] <;> iassumption
  iintro HO
  iapply (step_ret c)
  iapply Hk; iexact HO

/-- The third signal, the barrier wait, and the first loads. -/
theorem part2_run (K : Key → ℕ) (c : Dev nD) (v2 w : BitVec 32) (Kt : (Σ' (_ : BitVec 32) (_ : FVec F S256x1024 .f32), FVec F S256x2048 .f32) → sProp 𝕄) :
    iprop(records m ρ K ∗ levAts L lv ∗ owe c 7 ∗ dutyTok ER (barCell (peer 2 c)) 0 2 ∗ slots c 2 ∗ cred (tallyAt (barCell c) () 3) ∗ atPos ER (barCell c) 0 ∅ 0
        ∗ ops m ρ c
        ∗ (∀ v : BitVec 32, (owe c 6 ∗ semVal (barCell c) 0 ∗ slots (peer 2 c) 0 ∗ slots (peer 1 c) 1 ∗ slots (peer 0 c) 2 ∗ ops m ρ c)
            -∗ Kt ⟨v, k0_pay1 (rows m ρ c (peer 0 c)), k0_pay2 (rows m ρ c (peer 0 c)) (gstg m ρ c)⟩))
      ⊢ run c (k0_part2 (F := F) xM (Memref.isWhole_whole _) gM (Memref.isWhole_whole _) uM (Memref.isWhole_whole _) dM (Memref.isWhole_whole _)
          oM (Memref.isWhole_whole _) stM (Memref.isWhole_whole _) rsM (Memref.isWhole_whole _) srcM (Memref.isWhole_whole _) agM (Memref.isWhole_whole _)
          cc0_scratch4 cc0_scratch5 cc0_scratch6 cc0_scratch7 c v2 (SemArray.scalar (sig.barrier 0 rfl)) w) Kt := by
  simp only [k0_part2_eq_skeleton]; unfold k0_part2_skel
  simp only [semSignalWord, semWaitWord, Prog.lift, Prog.bind_op, Prog.bind_ret, Prog.pure_eq_ret, Prog.bind_assoc]
  iintro ⟨#HR, #Hlev, HO, Ht, Hs, Hc, Hat, Hops, Hk⟩
  ihave Hs' := (show slots c 2 ⊢ iprop(free c (slot rsM 2) ∗ free (F := F) c (slot agM 2)) from .rfl) $$ Hs
  icases Hs' with ⟨Hr, Ha⟩
  iapply (step_signal m ρ K c _ 2 (dev3_eq c) 6 rfl rfl rfl) $$ [HO Ht Hr Ha]
  · isplitr; · iexact HR
    isplitl [HO]; · iexact HO
    isplitl [Ht]; · iexact Ht
    isplitl [Hr] <;> iassumption
  iintro HO
  iapply (step_barrier m ρ K c rfl) $$ [HO Hc Hat]
  · isplitr; · iexact HR
    isplitr; · iexact Hlev
    isplitl [HO]; · iexact HO
    isplitl [Hc] <;> iassumption
  rw [barPay_eq, barPay_eq, barPay_eq]
  iintro ⟨HO, Hz, H0, H1, H2⟩
  iapply (step_rows_gate m ρ c (peer 0 c) (off1_eq c 0)) $$ Hops
  iintro Hops
  iapply (step_ret c)
  iapply Hk
  isplitl [HO]; · iexact HO
  isplitl [Hz]; · iexact Hz
  isplitl [H0]; · iexact H0
  isplitl [H1]; · iexact H1
  isplitl [H2]; · iexact H2
  iexact Hops

/-! ## The partial products for the peers -/

/-- The partial product for peer 0, into the first slot and on its way. -/
theorem part3_run (K : Key → ℕ) (c : Dev nD) (v2 v57 : BitVec 32) (Kt : (Σ' (_ : BitVec 32) (_ : BitVec 32) (_ : BitVec 1) (_ : BitVec 1), BitVec 1) → sProp 𝕄) :
    iprop(records m ρ K ∗ owe c 6 ∗ ops m ρ c ∗ free c (slot stM 0) ∗ free (peer 0 c) (slot rsM 2)
        ∗ dutyTok ER (xcell 0 0 c) 0 0 ∗ dutyTok ER (xcell 1 2 (peer 0 c)) 0 0
        ∗ (∀ v : BitVec 32, ∀ v' : BitVec 32, ∀ b : BitVec 1, ∀ b' : BitVec 1, ∀ b'' : BitVec 1, (owe c 5 ∗ cred (tallyAt (xcell 0 0 c) () N) ∗ ops m ρ c) -∗ Kt ⟨v, v', b, b', b''⟩))
      ⊢ run c (k0_part3 (F := F) xM (Memref.isWhole_whole _) gM (Memref.isWhole_whole _) uM (Memref.isWhole_whole _) dM (Memref.isWhole_whole _)
          oM (Memref.isWhole_whole _) stM (Memref.isWhole_whole _) rsM (Memref.isWhole_whole _) srcM (Memref.isWhole_whole _) agM (Memref.isWhole_whole _)
          cc0_scratch4 cc0_scratch5 cc0_scratch6 cc0_scratch7 c v2 v57 (k0_pay1 (rows m ρ c (peer 0 c))) (k0_pay2 (rows m ρ c (peer 0 c)) (gstg m ρ c))) Kt := by
  simp only [k0_part3_eq_skeleton]; unfold k0_part3_skel
  simp only [Prog.lift, Prog.bind_op, Prog.bind_ret, Prog.pure_eq_ret, Prog.bind_assoc]
  iintro ⟨#HR, HO, Hops, Hst, Hrs, Ht₁, Ht₂, Hk⟩
  iapply (step_up_down m ρ c) $$ Hops
  iintro Hops
  iapply (step_fill c stM 0 (sent m ρ c (peer 0 c)) rfl) $$ Hst
  iintro Hst
  iapply (step_send_part m ρ K c _ 0 (dev4_eq c) 5 rfl rfl) $$ [HO Hst Hrs Ht₁ Ht₂]
  · isplitr; · iexact HR
    isplitl [HO]; · iexact HO
    isplitl [Hst]; · iexact Hst
    isplitl [Hrs]; · iexact Hrs
    isplitl [Ht₁]; · iexact Ht₁
    iexact Ht₂
  iintro ⟨HO, Hc⟩
  iapply (step_ret c)
  iapply Hk
  isplitl [HO]; · iexact HO
  isplitl [Hc] <;> iassumption

/-- The partial product for peer 1, into the second slot and on its way. -/
theorem part4_run (K : Key → ℕ) (c : Dev nD) (v v' : BitVec 32) (b b' b'' : BitVec 1) (Kt : PUnit → sProp 𝕄) :
    iprop(records m ρ K ∗ owe c 5 ∗ ops m ρ c ∗ free c (slot stM 1) ∗ free (peer 1 c) (slot rsM 1)
        ∗ dutyTok ER (xcell 0 1 c) 0 0 ∗ dutyTok ER (xcell 1 1 (peer 1 c)) 0 0
        ∗ ((owe c 4 ∗ cred (tallyAt (xcell 0 1 c) () N) ∗ ops m ρ c) -∗ Kt ⟨⟩))
      ⊢ run c (k0_part4 (F := F) xM (Memref.isWhole_whole _) gM (Memref.isWhole_whole _) uM (Memref.isWhole_whole _) dM (Memref.isWhole_whole _)
          oM (Memref.isWhole_whole _) stM (Memref.isWhole_whole _) rsM (Memref.isWhole_whole _) srcM (Memref.isWhole_whole _) agM (Memref.isWhole_whole _)
          cc0_scratch4 cc0_scratch5 cc0_scratch6 cc0_scratch7 c v v' b b' b'') Kt := by
  simp only [k0_part4_eq_skeleton]; unfold k0_part4_skel
  simp only [Prog.lift, Prog.bind_op, Prog.bind_ret, Prog.pure_eq_ret, Prog.bind_assoc]
  iintro ⟨#HR, HO, Hops, Hst, Hrs, Ht₁, Ht₂, Hk⟩
  iapply (step_rows_gate m ρ c (peer 1 c) (off1_eq c 1)) $$ Hops
  iintro Hops
  iapply (step_up_down m ρ c) $$ Hops
  iintro Hops
  iapply (step_fill c stM 1 (sent m ρ c (peer 1 c)) rfl) $$ Hst
  iintro Hst
  iapply (step_send_part m ρ K c _ 1 (dev5_eq c) 4 rfl rfl) $$ [HO Hst Hrs Ht₁ Ht₂]
  · isplitr; · iexact HR
    isplitl [HO]; · iexact HO
    isplitl [Hst]; · iexact Hst
    isplitl [Hrs]; · iexact Hrs
    isplitl [Ht₁]; · iexact Ht₁
    iexact Ht₂
  iintro ⟨HO, Hc⟩
  iapply (step_ret c)
  iapply Hk
  isplitl [HO]; · iexact HO
  isplitl [Hc] <;> iassumption

/-- The partial product for peer 2, into the third slot. -/
theorem part5_run (c : Dev nD) (v2 : BitVec 32) (Kt : (Σ' (_ : BitVec 32), BitVec 32) → sProp 𝕄) :
    iprop(ops m ρ c ∗ free c (slot stM 2)
        ∗ (∀ v : BitVec 32, ∀ v' : BitVec 32, (ops m ρ c ∗ blk c (slot stM 2) fullShare (sent m ρ c (peer 2 c))) -∗ Kt ⟨v, v'⟩))
      ⊢ run c (k0_part5 (F := F) xM (Memref.isWhole_whole _) gM (Memref.isWhole_whole _) uM (Memref.isWhole_whole _) dM (Memref.isWhole_whole _)
          oM (Memref.isWhole_whole _) stM (Memref.isWhole_whole _) rsM (Memref.isWhole_whole _) srcM (Memref.isWhole_whole _) agM (Memref.isWhole_whole _)
          cc0_scratch4 cc0_scratch5 cc0_scratch6 cc0_scratch7 c v2) Kt := by
  simp only [k0_part5_eq_skeleton]; unfold k0_part5_skel
  simp only [Prog.lift, Prog.bind_op, Prog.bind_ret, Prog.pure_eq_ret, Prog.bind_assoc]
  iintro ⟨Hops, Hst, Hk⟩
  iapply (step_rows_gate m ρ c (peer 2 c) (off1_eq c 2)) $$ Hops
  iintro Hops
  iapply (step_up_down m ρ c) $$ Hops
  iintro Hops
  iapply (step_fill c stM 2 (sent m ρ c (peer 2 c)) rfl) $$ Hst
  iintro Hst
  iapply (step_ret c)
  iapply Hk
  isplitl [Hops] <;> iassumption

/-- That product on its way, and the device's own. -/
theorem part6_run (K : Key → ℕ) (c : Dev nD) (v v' v'' : BitVec 32) (Kt : FVec F S256x1024 .f32 → sProp 𝕄) :
    iprop(records m ρ K ∗ owe c 4 ∗ ops m ρ c ∗ blk c (slot stM 2) fullShare (sent m ρ c (peer 2 c)) ∗ free (peer 2 c) (slot rsM 0)
        ∗ dutyTok ER (xcell 0 2 c) 0 0 ∗ dutyTok ER (xcell 1 0 (peer 2 c)) 0 0
        ∗ ((owe c 3 ∗ cred (tallyAt (xcell 0 2 c) () N) ∗ ops m ρ c) -∗ Kt (part m ρ c c)))
      ⊢ run c (k0_part6 (F := F) xM (Memref.isWhole_whole _) gM (Memref.isWhole_whole _) uM (Memref.isWhole_whole _) dM (Memref.isWhole_whole _)
          oM (Memref.isWhole_whole _) stM (Memref.isWhole_whole _) rsM (Memref.isWhole_whole _) srcM (Memref.isWhole_whole _) agM (Memref.isWhole_whole _)
          cc0_scratch4 cc0_scratch5 cc0_scratch6 cc0_scratch7 c v v' v'') Kt := by
  simp only [k0_part6_eq_skeleton]; unfold k0_part6_skel
  simp only [Prog.lift, Prog.bind_op, Prog.bind_ret, Prog.pure_eq_ret, Prog.bind_assoc]
  iintro ⟨#HR, HO, Hops, Hst, Hrs, Ht₁, Ht₂, Hk⟩
  iapply (step_send_part m ρ K c _ 2 (dev6_eq c) 3 rfl rfl) $$ [HO Hst Hrs Ht₁ Ht₂]
  · isplitr; · iexact HR
    isplitl [HO]; · iexact HO
    isplitl [Hst]; · iexact Hst
    isplitl [Hrs]; · iexact Hrs
    isplitl [Ht₁]; · iexact Ht₁
    iexact Ht₂
  iintro ⟨HO, Hc⟩
  iapply (step_rows_gate m ρ c c (k0_off2_eq c)) $$ Hops
  iintro Hops
  iapply (step_up_down m ρ c) $$ Hops
  iintro Hops
  iapply (step_ret c (a := part m ρ c c))
  iapply Hk
  isplitl [HO]; · iexact HO
  isplitl [Hc] <;> iassumption

end Cert.Ffn

end
-- ==== Proof.Gather.lean ====
/-
  The second half of the kernel on device `c`: the peers' partial products arrive and are added to its own, the sum is
  written to the result and sent to the peers, and the peers' chunks are written to the result as they arrive.
-/
module

public import proofs.«01_k».proof.Proof.Exchange
public import Idealize.ShloMosaic.Lib.MemrefSat

@[expose] public section

noncomputable section

namespace Cert.Ffn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

/-- A transfer semaphore of device `c` not yet waited for, whose units will come, -/
def pending (a : Fin 4) (p : Fin 3) (c : Dev nD) : sProp 𝕄 := iprop(cred (tallyAt (xcell a p c) () N) ∗ atPos ER (xcell a p c) 0 ∅ 0)
/-- and after its wait, with what it handed over. -/
def arrived (a : Fin 4) (p : Fin 3) (c : Dev nD) : sProp 𝕄 := iprop(semVal (xcell a p c) 0 ∗ xferPay m ρ c p a)

/-- The device's partial product for peer `p` has gone and its slot is free again; -/
theorem arrived_sent (p : Fin 3) (c : Dev nD) :
    arrived m ρ 0 p c = iprop(semVal (xcell 0 p c) 0 ∗ blk c (slot stM p) fullShare (sent m ρ c (peer p c))) := rfl
/-- peer `p`'s partial product has come; -/
theorem arrived_part (p : Fin 3) (c : Dev nD) :
    arrived m ρ 1 p c = iprop(semVal (xcell 1 p c) 0 ∗ blk c (slot rsM p) fullShare (sent m ρ (peer p c) c)) := rfl
/-- the device's chunk has gone to peer `p`; -/
theorem arrived_gone (p : Fin 3) (c : Dev nD) :
    arrived m ρ 2 p c = iprop(semVal (xcell 2 p c) 0 ∗ blk c srcM (third p) (accs m ρ c)) := rfl
/-- peer `p`'s chunk has come. -/
theorem arrived_chunk (p : Fin 3) (c : Dev nD) :
    arrived m ρ 3 p c = iprop(semVal (xcell 3 p c) 0 ∗ blk c (slot agM p) fullShare (accs m ρ (peer p c))) := rfl

/-- A wait on a transfer semaphore. -/
theorem step_collect (K : Key → ℕ) (c : Dev nD) (a : Fin 4) (p : Fin 3) (n : ℕ)
    (hw : (levAts L lv : sProp 𝕄) ⊢ MayWait (c : Thread nD τ) (.dma (xsem a p)) () (owing c n))
    {src dst : Memref sig .tc .vmem S256x1024 .bf16} {hs : src.view.WordExact} {hd : dst.view.WordExact} (hc : dst.view.dmaCredit = N)
    {α : Type} {Q : α → sProp 𝕄} {k : PUnit.{1} → Prog (TpuEff nD τ sig (Elt F) Λ₀ .tc) α} :
    iprop(records m ρ K ∗ levAts L lv ∗ owe c n ∗ pending a p c)
      ⊢ iprop(((owe c n ∗ arrived m ρ a p c) -∗ run c (k ⟨⟩) Q)
          -∗ run c (.op (.waitDma2 (xsem a p) src dst hs hd) k) Q) :=
  step_wait m ρ K c a p n hw hc

/-- A device that owes nothing may wait anywhere. -/
theorem mayWait_done (c : Dev nD) (s : SemLoc sig) : (levAts L lv : sProp 𝕄) ⊢ MayWait (c : Thread nD τ) s () (owing c 0) :=
  mayWait c s 0 fun _ h => absurd h (Nat.not_lt_zero _)

/-- The result with device `r`'s chunk written. -/
def put (r : Dev nD) (w : Vec F S256x1024 .f32) (f : (cc0_stg4_0 : Ref sig .tc).ty.Contents (Elt F)) :
    (cc0_stg4_0 : Ref sig .tc).ty.Contents (Elt F) := fun i => if chunkOf i = r then w (inChunk i) else f i

/-- A load of a chunk whose contents do not matter, then a store of the chunk. -/
theorem step_put (c r : Dev nD) (f : (cc0_stg4_0 : Ref sig .tc).ty.Contents (Elt F)) {off : Fin 2 → ℕ} (h : off = rowOff r) (W : Vec F S256x1024 .f32)
    {hi hi' : ∀ a, off a + S256x1024.size a ≤ S1024x1024.size a} {w : (Rect.unit (s := S1024x1024) off S256x1024.size hi).shape.Idx → Elt F .f32} (hw : w = W)
    {hl : (oM : Memref sig .tc .vmem S1024x1024 .f32).view.LoadsAt (Rect.unit (s := S1024x1024) off S256x1024.size hi').toLoadRect}
    {hx : ((oM : Memref sig .tc .vmem S1024x1024 .f32).access (Rect.unit (s := S1024x1024) off S256x1024.size hi)).Stores Finset.univ}
    {hm : (Finset.univ : Finset (Rect.unit (s := S1024x1024) off S256x1024.size hi).shape.Idx) = Finset.univ
      ∨ ∀ a, (Rect.unit (s := S1024x1024) off S256x1024.size hi).stride a = 1}
    {α : Type} {Q : α → sProp 𝕄} {k : PUnit.{1} → Prog (TpuEff nD τ sig (Elt F) Λ₀ .tc) α} :
    pts c cc0_stg4_0 f
      ⊢ iprop((pts c cc0_stg4_0 (put r W f) -∗ run c (k ⟨⟩) Q)
          -∗ run c (.op (.load oM (Rect.unit (s := S1024x1024) off S256x1024.size hi').toLoadRect hl)
              fun _ => .op (.store oM (Rect.unit (s := S1024x1024) off S256x1024.size hi) w Finset.univ hx hm) k) Q) := by
  have hput : ((oM : Memref sig .tc .vmem S1024x1024 .f32).access (Rect.unit (s := S1024x1024) off S256x1024.size hi) : View sig .tc _ _ _).write
      (Elt F) f w Finset.univ = put r W f := by
    rw [hw]; exact write_chunk r h hi f W
  iintro Ho Hk
  iapply (wp_load 𝒱₀ (c : Thread nD τ) none Set.univ (m := oM) (Finset.subset_univ _)) $$ Ho; iintro Ho
  iapply (wp_store 𝒱₀ (c : Thread nD τ) none Set.univ (m := oM) (r := Rect.unit (s := S1024x1024) off S256x1024.size hi) (Mk := Finset.univ) (Finset.subset_univ _)) $$ Ho
  iintro Ho
  rw [hput]
  iapply Hk; iexact Ho

/-- The whole of a block is its thirds. -/
theorem thirds (c : Dev nD) (b : Memref sig .tc .vmem S256x1024 .bf16) (X : Vec F S256x1024 .bf16) :
    (blk c b fullShare X : sProp 𝕄) ⊣⊢ iprop(blk c b (third 0) X ∗ blk c b (third 1) X ∗ blk c b (third 2) X) := by
  constructor
  · refine (owns_halves _ _ _ X).1.trans ?_
    iintro ⟨Hl, Hr⟩
    isplitl [Hl]; · iexact Hl
    iapply (owns_halves _ _ _ X).1; iexact Hr
  · iintro ⟨H0, H1, H2⟩
    iapply (owns_halves _ _ _ X).2
    isplitl [H0]; · iexact H0
    iapply (owns_halves _ _ _ X).2
    isplitl [H1]; · iexact H1
    iexact H2

/-- A load of the outgoing chunk's buffer, whose contents do not matter, then a store of it. -/
theorem step_outgoing (c : Dev nD) (X : Vec F S256x1024 .bf16)
    {hi hi' : ∀ a, (![0, 0] : Fin 2 → ℕ) a + S256x1024.size a ≤ S256x1024.size a} {w : (Rect.unit (s := S256x1024) ![0, 0] S256x1024.size hi).shape.Idx → Elt F .bf16} (hw : w = X)
    {hl : (srcM : Memref sig .tc .vmem S256x1024 .bf16).view.LoadsAt (Rect.unit (s := S256x1024) ![0, 0] S256x1024.size hi').toLoadRect}
    {hx : ((srcM : Memref sig .tc .vmem S256x1024 .bf16).access (Rect.unit (s := S256x1024) ![0, 0] S256x1024.size hi)).Stores Finset.univ}
    {hm : (Finset.univ : Finset (Rect.unit (s := S256x1024) ![0, 0] S256x1024.size hi).shape.Idx) = Finset.univ
      ∨ ∀ a, (Rect.unit (s := S256x1024) ![0, 0] S256x1024.size hi).stride a = 1}
    {α : Type} {Q : α → sProp 𝕄} {k : PUnit.{1} → Prog (TpuEff nD τ sig (Elt F) Λ₀ .tc) α} :
    (∃ f, pts c cc0_scratch2 f : sProp 𝕄)
      ⊢ iprop(((blk c srcM (third 0) X ∗ blk c srcM (third 1) X ∗ blk c srcM (third 2) X) -∗ run c (k ⟨⟩) Q)
          -∗ run c (.op (.load srcM (Rect.unit (s := S256x1024) ![0, 0] S256x1024.size hi').toLoadRect hl)
              fun _ => .op (.store srcM (Rect.unit (s := S256x1024) ![0, 0] S256x1024.size hi) w Finset.univ hx hm) k) Q) := by
  iintro ⟨%f, Hs⟩ Hk
  iapply (wp_load 𝒱₀ (c : Thread nD τ) none Set.univ (m := srcM) (Finset.subset_univ _)) $$ Hs; iintro Hs
  iapply (wp_store 𝒱₀ (c : Thread nD τ) none Set.univ (m := srcM) (r := Rect.unit (s := S256x1024) ![0, 0] S256x1024.size hi) (Mk := Finset.univ) (Finset.subset_univ _)) $$ Hs
  iintro Hs
  rw [write_src, hw]
  iapply Hk
  iapply (thirds c srcM X).1
  iapply (Entails.of_eq (owns_whole (c : Thread nD τ) cc0_scratch2 fullShare X).symm)
  iexact Hs

/-! ## The reduction -/

/-- A load of a peer's partial product, arrived. -/
theorem step_load_part (c : Dev nD) (p : Fin 3) {hl : (rsM : Memref sig .tc .vmem S3x256x1024 .bf16).view.LoadsAt (slotR p).toLoadRect} {α : Type} {Q : α → sProp 𝕄}
    {k : ((slotR p).shape.Idx → Elt F .bf16) → Prog (TpuEff nD τ sig (Elt F) Λ₀ .tc) α} :
    arrived m ρ 1 p c
      ⊢ iprop((arrived m ρ 1 p c -∗ run c (k (asSlot (sent m ρ (peer p c) c))) Q) -∗ run c (.op (.load rsM (slotR p).toLoadRect hl) k) Q) := by
  rw [arrived_part]
  iintro ⟨Hz, H⟩ Hk
  iapply (step_load_slot c rsM p (sent m ρ (peer p c) c)) $$ H
  iintro H
  iapply Hk
  isplitl [Hz] <;> iassumption

/-- The three peers' partial products, and the sum so far. -/
theorem part7_run (K : Key → ℕ) (c : Dev nD) (v2 : BitVec 32) (Kt : (Σ' (_ : FVec F S256x1024 .f32), FVec F S256x1024 .f32) → sProp 𝕄) :
    iprop(records m ρ K ∗ levAts L lv ∗ owe c 3 ∗ pending 1 0 c ∗ pending 1 1 c ∗ pending 1 2 c
        ∗ ((owe c 3 ∗ arrived m ρ 1 0 c ∗ arrived m ρ 1 1 c ∗ arrived m ρ 1 2 c)
            -∗ Kt ⟨k0_pay7 (part m ρ c c) (asSlot (sent m ρ (peer 0 c) c)) (asSlot (sent m ρ (peer 1 c) c)), k0_pay8 (asSlot (sent m ρ (peer 2 c) c))⟩))
      ⊢ run c (k0_part7 (F := F) xM (Memref.isWhole_whole _) gM (Memref.isWhole_whole _) uM (Memref.isWhole_whole _) dM (Memref.isWhole_whole _)
          oM (Memref.isWhole_whole _) stM (Memref.isWhole_whole _) rsM (Memref.isWhole_whole _) srcM (Memref.isWhole_whole _) agM (Memref.isWhole_whole _)
          cc0_scratch4 cc0_scratch5 cc0_scratch6 cc0_scratch7 v2 (part m ρ c c)) Kt := by
  simp only [k0_part7_eq_skeleton]; unfold k0_part7_skel
  simp only [Prog.lift, Prog.bind_op, Prog.bind_ret, Prog.pure_eq_ret, Prog.bind_assoc]
  iintro ⟨#HR, #Hlev, HO, H0, H1, H2, Hk⟩
  iapply (step_collect m ρ K c 1 0 3 (mayWait_rs c 0) (credit_slot_rs 0)) $$ [HO H0]
  · isplitr; · iexact HR
    isplitr; · iexact Hlev
    isplitl [HO] <;> iassumption
  iintro ⟨HO, H0⟩
  iapply (step_collect m ρ K c 1 1 3 (mayWait_rs c 1) (credit_slot_rs 1)) $$ [HO H1]
  · isplitr; · iexact HR
    isplitr; · iexact Hlev
    isplitl [HO] <;> iassumption
  iintro ⟨HO, H1⟩
  iapply (step_collect m ρ K c 1 2 3 (mayWait_rs c 2) (credit_slot_rs 2)) $$ [HO H2]
  · isplitr; · iexact HR
    isplitr; · iexact Hlev
    isplitl [HO] <;> iassumption
  iintro ⟨HO, H2⟩
  iapply (step_load_part m ρ c 0) $$ H0
  iintro H0
  iapply (step_load_part m ρ c 1) $$ H1
  iintro H1
  iapply (step_load_part m ρ c 2) $$ H2
  iintro H2
  iapply (step_ret c)
  iapply Hk
  isplitl [HO]; · iexact HO
  isplitl [H0]; · iexact H0
  isplitl [H1] <;> iassumption

/-- The device's reduced chunk, into its result and on its way to peer 0. -/
theorem part8_run (K : Key → ℕ) (c : Dev nD) (f : (cc0_stg4_0 : Ref sig .tc).ty.Contents (Elt F)) (v2 : BitVec 32) (Kt : (Σ' (_ : BitVec 32), BitVec 32) → sProp 𝕄) :
    iprop(records m ρ K ∗ owe c 3 ∗ pts c cc0_stg4_0 f ∗ (∃ g, pts c cc0_scratch2 g) ∗ free (peer 0 c) (slot agM 2)
        ∗ dutyTok ER (xcell 2 0 c) 0 0 ∗ dutyTok ER (xcell 3 2 (peer 0 c)) 0 0
        ∗ (∀ v : BitVec 32, ∀ v' : BitVec 32, (owe c 2 ∗ cred (tallyAt (xcell 2 0 c) () N) ∗ pts c cc0_stg4_0 (put c (acc m ρ c) f)
              ∗ blk c srcM (third 1) (accs m ρ c) ∗ blk c srcM (third 2) (accs m ρ c)) -∗ Kt ⟨v, v'⟩))
      ⊢ run c (k0_part8 (F := F) xM (Memref.isWhole_whole _) gM (Memref.isWhole_whole _) uM (Memref.isWhole_whole _) dM (Memref.isWhole_whole _)
          oM (Memref.isWhole_whole _) stM (Memref.isWhole_whole _) rsM (Memref.isWhole_whole _) srcM (Memref.isWhole_whole _) agM (Memref.isWhole_whole _)
          cc0_scratch4 cc0_scratch5 cc0_scratch6 cc0_scratch7 c v2
          (k0_pay7 (part m ρ c c) (asSlot (sent m ρ (peer 0 c) c)) (asSlot (sent m ρ (peer 1 c) c))) (k0_pay8 (asSlot (sent m ρ (peer 2 c) c)))) Kt := by
  simp only [k0_part8_eq_skeleton]; unfold k0_part8_skel
  simp only [Prog.lift, Prog.bind_op, Prog.bind_ret, Prog.pure_eq_ret, Prog.bind_assoc]
  iintro ⟨#HR, HO, Hout, Hsrc, Hag, Ht₁, Ht₂, Hk⟩
  iapply (step_put c c f (k0_off2_eq c) (acc m ρ c) rfl) $$ Hout
  iintro Hout
  iapply (step_outgoing c (accs m ρ c) (shapeCast_self _ _)) $$ Hsrc
  iintro ⟨H0, H1, H2⟩
  iapply (step_send_acc m ρ K c _ 0 (dev7_eq c) 2 rfl rfl) $$ [HO H0 Hag Ht₁ Ht₂]
  · isplitr; · iexact HR
    isplitl [HO]; · iexact HO
    isplitl [H0]; · iexact H0
    isplitl [Hag]; · iexact Hag
    isplitl [Ht₁]; · iexact Ht₁
    iexact Ht₂
  iintro ⟨HO, Hc⟩
  iapply (step_ret c)
  iapply Hk
  isplitl [HO]; · iexact HO
  isplitl [Hc]; · iexact Hc
  isplitl [Hout]; · iexact Hout
  isplitl [H1] <;> iassumption

/-- The chunk on its way to peer 1. -/
theorem part9_run (K : Key → ℕ) (c : Dev nD) (v2 v v' : BitVec 32) (Kt : PUnit → sProp 𝕄) :
    iprop(records m ρ K ∗ owe c 2 ∗ blk c srcM (third 1) (accs m ρ c) ∗ free (peer 1 c) (slot agM 1)
        ∗ dutyTok ER (xcell 2 1 c) 0 0 ∗ dutyTok ER (xcell 3 1 (peer 1 c)) 0 0
        ∗ ((owe c 1 ∗ cred (tallyAt (xcell 2 1 c) () N)) -∗ Kt ⟨⟩))
      ⊢ run c (k0_part9 (F := F) xM (Memref.isWhole_whole _) gM (Memref.isWhole_whole _) uM (Memref.isWhole_whole _) dM (Memref.isWhole_whole _)
          oM (Memref.isWhole_whole _) stM (Memref.isWhole_whole _) rsM (Memref.isWhole_whole _) srcM (Memref.isWhole_whole _) agM (Memref.isWhole_whole _)
          cc0_scratch4 cc0_scratch5 cc0_scratch6 cc0_scratch7 c v2 v v') Kt := by
  simp only [k0_part9_eq_skeleton]; unfold k0_part9_skel
  simp only [Prog.lift, Prog.bind_op, Prog.bind_ret, Prog.pure_eq_ret, Prog.bind_assoc]
  iintro ⟨#HR, HO, H1, Hag, Ht₁, Ht₂, Hk⟩
  iapply (step_send_acc m ρ K c _ 1 (dev8_eq c) 1 rfl rfl) $$ [HO H1 Hag Ht₁ Ht₂]
  · isplitr; · iexact HR
    isplitl [HO]; · iexact HO
    isplitl [H1]; · iexact H1
    isplitl [Hag]; · iexact Hag
    isplitl [Ht₁]; · iexact Ht₁
    iexact Ht₂
  iintro ⟨HO, Hc⟩
  iapply (step_ret c)
  iapply Hk
  isplitl [HO] <;> iassumption

/-! ## The peers' chunks -/

/-- A peer's chunk, arrived, is written to the result. -/
theorem step_spread (c : Dev nD) (p : Fin 3) (f : (cc0_stg4_0 : Ref sig .tc).ty.Contents (Elt F)) {off : Fin 2 → ℕ} (h : off = rowOff (peer p c))
    {hi hi' : ∀ a, off a + S256x1024.size a ≤ S1024x1024.size a} {w : ((slotR p).shape.Idx → Elt F .bf16) → (Rect.unit (s := S1024x1024) off S256x1024.size hi).shape.Idx → Elt F .f32}
    (hw : w (asSlot (accs m ρ (peer p c))) = spread m ρ (peer p c)) {hs : (agM : Memref sig .tc .vmem S3x256x1024 .bf16).view.LoadsAt (slotR p).toLoadRect}
    {hl : (oM : Memref sig .tc .vmem S1024x1024 .f32).view.LoadsAt (Rect.unit (s := S1024x1024) off S256x1024.size hi').toLoadRect}
    {hx : ((oM : Memref sig .tc .vmem S1024x1024 .f32).access (Rect.unit (s := S1024x1024) off S256x1024.size hi)).Stores Finset.univ}
    {hm : (Finset.univ : Finset (Rect.unit (s := S1024x1024) off S256x1024.size hi).shape.Idx) = Finset.univ
      ∨ ∀ a, (Rect.unit (s := S1024x1024) off S256x1024.size hi).stride a = 1}
    {α : Type} {Q : α → sProp 𝕄} {k : PUnit.{1} → Prog (TpuEff nD τ sig (Elt F) Λ₀ .tc) α} :
    iprop(arrived m ρ 3 p c ∗ pts c cc0_stg4_0 f)
      ⊢ iprop(((arrived m ρ 3 p c ∗ pts c cc0_stg4_0 (put (peer p c) (spread m ρ (peer p c)) f)) -∗ run c (k ⟨⟩) Q)
          -∗ run c (.op (.load agM (slotR p).toLoadRect hs) fun l =>
              .op (.load oM (Rect.unit (s := S1024x1024) off S256x1024.size hi').toLoadRect hl)
              fun _ => .op (.store oM (Rect.unit (s := S1024x1024) off S256x1024.size hi) (w l) Finset.univ hx hm) k) Q) := by
  rw [arrived_chunk]
  iintro ⟨⟨Hz, H⟩, Ho⟩ Hk
  iapply (step_load_slot c agM p (accs m ρ (peer p c))) $$ H
  iintro H
  iapply (step_put c (peer p c) f h (spread m ρ (peer p c)) hw) $$ Ho
  iintro Ho
  iapply Hk
  isplitl [Hz H]
  · isplitl [Hz]; · iexact Hz
    iexact H
  iexact Ho

/-- The payload of a peer's chunk is that chunk in single precision. -/
theorem spread_eq (r : Dev nD) : extf .f32 (shapeCast S256x1024 (asSlot (accs m ρ r)) shapeCasts_S1x256x1024_S256x1024) bitsLt_bf16_f32 = spread m ρ r := by
  unfold asSlot spread; rw [shapeCast_shapeCast]

/-- The chunk on its way to peer 2, and peer 0's chunk. -/
theorem part10_run (K : Key → ℕ) (c : Dev nD) (f : (cc0_stg4_0 : Ref sig .tc).ty.Contents (Elt F)) (v2 : BitVec 32) (Kt : PUnit → sProp 𝕄) :
    iprop(records m ρ K ∗ levAts L lv ∗ owe c 1 ∗ blk c srcM (third 2) (accs m ρ c) ∗ free (peer 2 c) (slot agM 0)
        ∗ dutyTok ER (xcell 2 2 c) 0 0 ∗ dutyTok ER (xcell 3 0 (peer 2 c)) 0 0 ∗ pending 3 0 c ∗ pts c cc0_stg4_0 f
        ∗ ((owe c 0 ∗ cred (tallyAt (xcell 2 2 c) () N) ∗ arrived m ρ 3 0 c ∗ pts c cc0_stg4_0 (put (peer 0 c) (spread m ρ (peer 0 c)) f)) -∗ Kt ⟨⟩))
      ⊢ run c (k0_part10 (F := F) xM (Memref.isWhole_whole _) gM (Memref.isWhole_whole _) uM (Memref.isWhole_whole _) dM (Memref.isWhole_whole _)
          oM (Memref.isWhole_whole _) stM (Memref.isWhole_whole _) rsM (Memref.isWhole_whole _) srcM (Memref.isWhole_whole _) agM (Memref.isWhole_whole _)
          cc0_scratch4 cc0_scratch5 cc0_scratch6 cc0_scratch7 c v2) Kt := by
  simp only [k0_part10_eq_skeleton]; unfold k0_part10_skel
  simp only [Prog.lift, Prog.bind_op, Prog.bind_ret, Prog.pure_eq_ret, Prog.bind_assoc]
  iintro ⟨#HR, #Hlev, HO, H2, Hag, Ht₁, Ht₂, Hp, Hout, Hk⟩
  iapply (step_send_acc m ρ K c _ 2 (dev9_eq c) 0 rfl rfl) $$ [HO H2 Hag Ht₁ Ht₂]
  · isplitr; · iexact HR
    isplitl [HO]; · iexact HO
    isplitl [H2]; · iexact H2
    isplitl [Hag]; · iexact Hag
    isplitl [Ht₁]; · iexact Ht₁
    iexact Ht₂
  iintro ⟨HO, Hc⟩
  iapply (step_collect m ρ K c 3 0 0 (mayWait_done c _) (credit_slot_ag 0)) $$ [HO Hp]
  · isplitr; · iexact HR
    isplitr; · iexact Hlev
    isplitl [HO] <;> iassumption
  iintro ⟨HO, Hp⟩
  iapply (step_spread m ρ c 0 f (off1_eq c 0) (w := k0_pay11) (spread_eq m ρ (peer 0 c))) $$ [Hp Hout]
  · isplitl [Hp] <;> iassumption
  iintro ⟨Hp, Hout⟩
  iapply (step_ret c)
  iapply Hk
  isplitl [HO]; · iexact HO
  isplitl [Hc]; · iexact Hc
  isplitl [Hp] <;> iassumption

/-- Peer 1's chunk, and the arrival of peer 2's. -/
theorem part11_run (K : Key → ℕ) (c : Dev nD) (f : (cc0_stg4_0 : Ref sig .tc).ty.Contents (Elt F)) (v2 : BitVec 32)
    (Kt : (Σ' (_ : BitVec 32) (_ : BitVec 32), BitVec 1) → sProp 𝕄) :
    iprop(records m ρ K ∗ levAts L lv ∗ owe c 0 ∗ pending 3 1 c ∗ pending 3 2 c ∗ pts c cc0_stg4_0 f
        ∗ (∀ v : BitVec 32, ∀ v' : BitVec 32, ∀ b : BitVec 1,
            (owe c 0 ∗ arrived m ρ 3 1 c ∗ arrived m ρ 3 2 c ∗ pts c cc0_stg4_0 (put (peer 1 c) (spread m ρ (peer 1 c)) f)) -∗ Kt ⟨v, v', b⟩))
      ⊢ run c (k0_part11 (F := F) xM (Memref.isWhole_whole _) gM (Memref.isWhole_whole _) uM (Memref.isWhole_whole _) dM (Memref.isWhole_whole _)
          oM (Memref.isWhole_whole _) stM (Memref.isWhole_whole _) rsM (Memref.isWhole_whole _) srcM (Memref.isWhole_whole _) agM (Memref.isWhole_whole _)
          cc0_scratch4 cc0_scratch5 cc0_scratch6 cc0_scratch7 c v2) Kt := by
  simp only [k0_part11_eq_skeleton]; unfold k0_part11_skel
  simp only [Prog.lift, Prog.bind_op, Prog.bind_ret, Prog.pure_eq_ret, Prog.bind_assoc]
  iintro ⟨#HR, #Hlev, HO, Hp, Hp', Hout, Hk⟩
  iapply (step_collect m ρ K c 3 1 0 (mayWait_done c _) (credit_slot_ag 1)) $$ [HO Hp]
  · isplitr; · iexact HR
    isplitr; · iexact Hlev
    isplitl [HO] <;> iassumption
  iintro ⟨HO, Hp⟩
  iapply (step_spread m ρ c 1 f (off1_eq c 1) (w := k0_pay12) (spread_eq m ρ (peer 1 c))) $$ [Hp Hout]
  · isplitl [Hp] <;> iassumption
  iintro ⟨Hp, Hout⟩
  iapply (step_collect m ρ K c 3 2 0 (mayWait_done c _) (credit_slot_ag 2)) $$ [HO Hp']
  · isplitr; · iexact HR
    isplitr; · iexact Hlev
    isplitl [HO] <;> iassumption
  iintro ⟨HO, Hp'⟩
  iapply (step_ret c)
  iapply Hk
  isplitl [HO]; · iexact HO
  isplitl [Hp]; · iexact Hp
  isplitl [Hp'] <;> iassumption

/-- Peer 2's chunk, and the first two of the device's own transfers gone. -/
theorem part12_run (K : Key → ℕ) (c : Dev nD) (f : (cc0_stg4_0 : Ref sig .tc).ty.Contents (Elt F)) (v v' : BitVec 32) (b : BitVec 1) (Kt : PUnit → sProp 𝕄) :
    iprop(records m ρ K ∗ levAts L lv ∗ owe c 0 ∗ arrived m ρ 3 2 c ∗ pts c cc0_stg4_0 f ∗ pending 0 0 c ∗ pending 0 1 c
        ∗ ((owe c 0 ∗ arrived m ρ 3 2 c ∗ pts c cc0_stg4_0 (put (peer 2 c) (spread m ρ (peer 2 c)) f) ∗ arrived m ρ 0 0 c ∗ arrived m ρ 0 1 c) -∗ Kt ⟨⟩))
      ⊢ run c (k0_part12 (F := F) xM (Memref.isWhole_whole _) gM (Memref.isWhole_whole _) uM (Memref.isWhole_whole _) dM (Memref.isWhole_whole _)
          oM (Memref.isWhole_whole _) stM (Memref.isWhole_whole _) rsM (Memref.isWhole_whole _) srcM (Memref.isWhole_whole _) agM (Memref.isWhole_whole _)
          cc0_scratch4 cc0_scratch5 cc0_scratch6 cc0_scratch7 c v v' b) Kt := by
  simp only [k0_part12_eq_skeleton]; unfold k0_part12_skel
  simp only [Prog.lift, Prog.bind_op, Prog.bind_ret, Prog.pure_eq_ret, Prog.bind_assoc]
  iintro ⟨#HR, #Hlev, HO, Hp, Hout, H0, H1, Hk⟩
  iapply (step_spread m ρ c 2 f (off1_eq c 2) (w := k0_pay13) (spread_eq m ρ (peer 2 c))) $$ [Hp Hout]
  · isplitl [Hp] <;> iassumption
  iintro ⟨Hp, Hout⟩
  iapply (step_collect m ρ K c 0 0 0 (mayWait_done c _) (credit_slot_st 0)) $$ [HO H0]
  · isplitr; · iexact HR
    isplitr; · iexact Hlev
    isplitl [HO] <;> iassumption
  iintro ⟨HO, H0⟩
  iapply (step_collect m ρ K c 0 1 0 (mayWait_done c _) (credit_slot_st 1)) $$ [HO H1]
  · isplitr; · iexact HR
    isplitr; · iexact Hlev
    isplitl [HO] <;> iassumption
  iintro ⟨HO, H1⟩
  iapply (step_ret c)
  iapply Hk
  isplitl [HO]; · iexact HO
  isplitl [Hp]; · iexact Hp
  isplitl [Hout]; · iexact Hout
  isplitl [H0] <;> iassumption

end Cert.Ffn

end
-- ==== Proof.Body.lean ====
/-
  The whole kernel on device `c`, put together from its stretches.
-/
module

public import proofs.«01_k».proof.Proof.Gather

@[expose] public section

noncomputable section

namespace Cert.Ffn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

/-- What device `c` pays peer `p`'s semaphores with, and its own two that its transfers to `p` signal. -/
def tokens (c : Dev nD) (p : Fin 3) : sProp 𝕄 :=
  iprop(dutyTok ER (barCell (peer p c)) 0 p ∗ dutyTok ER (xcell 0 p c) 0 0 ∗ dutyTok ER (xcell 1 (rev p) (peer p c)) 0 0
    ∗ dutyTok ER (xcell 2 p c) 0 0 ∗ dutyTok ER (xcell 3 (rev p) (peer p c)) 0 0)
/-- Its places at its own semaphores `p`, and the units that will come at the two that receive. -/
def seats (c : Dev nD) (p : Fin 3) : sProp 𝕄 :=
  iprop(atPos ER (xcell 0 p c) 0 ∅ 0 ∗ pending 1 p c ∗ atPos ER (xcell 2 p c) 0 ∅ 0 ∗ pending 3 p c)
/-- Its slots `p`: one to send from and two to land in. -/
def rooms (c : Dev nD) (p : Fin 3) : sProp 𝕄 := iprop(free c (slot stM p) ∗ slots c p)
/-- All it starts with for `p`, -/
def start (c : Dev nD) (p : Fin 3) : sProp 𝕄 := iprop(tokens c p ∗ seats c p ∗ rooms c p)
/-- and all it ends with: the four transfers made. -/
def done (c : Dev nD) (p : Fin 3) : sProp 𝕄 := iprop(arrived m ρ 0 p c ∗ arrived m ρ 1 p c ∗ arrived m ρ 2 p c ∗ arrived m ρ 3 p c)

/-- A program in two pieces. -/
theorem step_bind (c : Dev nD) {α β : Type} {p : Prog (TpuEff nD τ sig (Elt F) Λ₀ .tc) α} {k : α → Prog (TpuEff nD τ sig (Elt F) Λ₀ .tc) β} {Q : β → sProp 𝕄} :
    run c p (fun a => run c (k a) Q) ⊢ run (F := F) c (p >>= k) Q :=
  Entails.of_eq (wp_bind _ _ _ _ _ _).symm

/-- What a device starts with for one place, opened. -/
theorem start_eq (c : Dev nD) (p : Fin 3) : (start c p : sProp 𝕄) ⊢
    iprop((dutyTok ER (barCell (peer p c)) 0 p ∗ dutyTok ER (xcell 0 p c) 0 0 ∗ dutyTok ER (xcell 1 (rev p) (peer p c)) 0 0
        ∗ dutyTok ER (xcell 2 p c) 0 0 ∗ dutyTok ER (xcell 3 (rev p) (peer p c)) 0 0)
      ∗ (atPos ER (xcell 0 p c) 0 ∅ 0 ∗ pending 1 p c ∗ atPos ER (xcell 2 p c) 0 ∅ 0 ∗ pending 3 p c)
      ∗ (free c (slot stM p) ∗ slots c p)) := .rfl

/-- The two slots a peer lends, opened. -/
theorem slots_eq (c : Dev nD) (p : Fin 3) : (slots c p : sProp 𝕄) ⊢ iprop(free c (slot rsM p) ∗ free c (slot agM p)) := .rfl
/-- A copy's credit and the position of its cell are what is pending, -/
theorem pending_intro (a : Fin 4) (p : Fin 3) (c : Dev nD) : iprop(cred (tallyAt (xcell a p c) () N) ∗ atPos ER (xcell a p c) 0 ∅ 0) ⊢ (pending a p c : sProp 𝕄) := .rfl
/-- and the four arrivals of one place are what is done. -/
theorem done_intro (c : Dev nD) (p : Fin 3) : iprop(arrived m ρ 0 p c ∗ arrived m ρ 1 p c ∗ arrived m ρ 2 p c ∗ arrived m ρ 3 p c) ⊢ done m ρ c p := .rfl
/-- A transfer of the outgoing chunk pays as much as any. -/
theorem credit_src : (srcM : Memref sig .tc .vmem S256x1024 .bf16).view.dmaCredit = N := rfl

set_option maxHeartbeats 2000000 in
/-- The kernel's run on a device. -/
theorem body_run (K : Key → ℕ) (c : Dev nD) (f : (cc0_stg4_0 : Ref sig .tc).ty.Contents (Elt F)) (Kt : PUnit → sProp 𝕄) :
    iprop(records m ρ K ∗ levAts L lv ∗ owe c 9 ∗ cred (tallyAt (barCell c) () 3) ∗ atPos ER (barCell c) 0 ∅ 0
        ∗ start c 0 ∗ start c 1 ∗ start c 2 ∗ (∃ g, pts c cc0_scratch2 g) ∗ ops m ρ c ∗ pts c cc0_stg4_0 f
        ∗ ((owe c 0 ∗ semVal (barCell c) 0 ∗ done m ρ c 0 ∗ done m ρ c 1 ∗ done m ρ c 2 ∗ ops m ρ c ∗ pts c cc0_stg4_0 (outAt m ρ c)) -∗ Kt ⟨⟩))
      ⊢ run c (cc0_body (F := F) xM (Memref.isWhole_whole _) gM (Memref.isWhole_whole _) uM (Memref.isWhole_whole _) dM (Memref.isWhole_whole _)
          oM (Memref.isWhole_whole _) stM (Memref.isWhole_whole _) rsM (Memref.isWhole_whole _) srcM (Memref.isWhole_whole _) agM (Memref.isWhole_whole _)
          cc0_scratch4 cc0_scratch5 cc0_scratch6 cc0_scratch7) Kt := by
  simp only [cc0_body_eq_skeleton]; unfold cc0_body_skel
  iintro ⟨#HR, #Hlev, HO, Hcb, Hab, S0, S1, S2, Hsrc, Hops, Hout, Hk⟩
  ihave S0 := (start_eq c 0) $$ S0
  ihave S1 := (start_eq c 1) $$ S1
  ihave S2 := (start_eq c 2) $$ S2
  icases S0 with ⟨⟨TB0, Ta0, Tb0, Tc0, Td0⟩, ⟨Aa0, Ab0, Ac0, Ad0⟩, ⟨st0, sl0⟩⟩
  icases S1 with ⟨⟨TB1, Ta1, Tb1, Tc1, Td1⟩, ⟨Aa1, Ab1, Ac1, Ad1⟩, ⟨st1, sl1⟩⟩
  icases S2 with ⟨⟨TB2, Ta2, Tb2, Tc2, Td2⟩, ⟨Aa2, Ab2, Ac2, Ad2⟩, ⟨st2, sl2⟩⟩
  iapply (step_bind c)
  iapply (part1_run m ρ K c)
  isplitr; · iexact HR
  isplitl [HO]; · iexact HO
  isplitl [TB0]; · iexact TB0
  isplitl [TB1]; · iexact TB1
  isplitl [sl0]; · iexact sl0
  isplitl [sl1]; · iexact sl1
  iintro %v2 HO
  dsimp only
  iapply (step_bind c)
  iapply (part2_run m ρ K c)
  isplitr; · iexact HR
  isplitr; · iexact Hlev
  isplitl [HO]; · iexact HO
  isplitl [TB2]; · iexact TB2
  isplitl [sl2]; · iexact sl2
  isplitl [Hcb]; · iexact Hcb
  isplitl [Hab]; · iexact Hab
  isplitl [Hops]; · iexact Hops
  iintro %v57 ⟨HO, HzB, P20, P11, P02, Hops⟩
  dsimp only
  ihave P20 := (slots_eq (peer 2 c) 0) $$ P20
  ihave P11 := (slots_eq (peer 1 c) 1) $$ P11
  ihave P02 := (slots_eq (peer 0 c) 2) $$ P02
  icases P20 with ⟨R2, G2⟩
  icases P11 with ⟨R1, G1⟩
  icases P02 with ⟨R0, G0⟩
  iapply (step_bind c)
  iapply (part3_run m ρ K c)
  isplitr; · iexact HR
  isplitl [HO]; · iexact HO
  isplitl [Hops]; · iexact Hops
  isplitl [st0]; · iexact st0
  isplitl [R0]; · iexact R0
  isplitl [Ta0]; · iexact Ta0
  isplitl [Tb0]; · iexact Tb0
  iintro %v %v' %b %b' %b'' ⟨HO, Ca0, Hops⟩
  dsimp only
  iapply (step_bind c)
  iapply (part4_run m ρ K c)
  isplitr; · iexact HR
  isplitl [HO]; · iexact HO
  isplitl [Hops]; · iexact Hops
  isplitl [st1]; · iexact st1
  isplitl [R1]; · iexact R1
  isplitl [Ta1]; · iexact Ta1
  isplitl [Tb1]; · iexact Tb1
  iintro ⟨HO, Ca1, Hops⟩
  iapply (step_bind c)
  iapply (part5_run m ρ c)
  isplitl [Hops]; · iexact Hops
  isplitl [st2]; · iexact st2
  iintro %v141 %v142 ⟨Hops, st2⟩
  dsimp only
  iapply (step_bind c)
  iapply (part6_run m ρ K c)
  isplitr; · iexact HR
  isplitl [HO]; · iexact HO
  isplitl [Hops]; · iexact Hops
  isplitl [st2]; · iexact st2
  isplitl [R2]; · iexact R2
  isplitl [Ta2]; · iexact Ta2
  isplitl [Tb2]; · iexact Tb2
  iintro ⟨HO, Ca2, Hops⟩
  iapply (step_bind c)
  iapply (part7_run m ρ K c)
  isplitr; · iexact HR
  isplitr; · iexact Hlev
  isplitl [HO]; · iexact HO
  isplitl [Ab0]; · iexact Ab0
  isplitl [Ab1]; · iexact Ab1
  isplitl [Ab2]; · iexact Ab2
  iintro ⟨HO, D10, D11, D12⟩
  dsimp only
  iapply (step_bind c)
  iapply (part8_run m ρ K c f)
  isplitr; · iexact HR
  isplitl [HO]; · iexact HO
  isplitl [Hout]; · iexact Hout
  isplitl [Hsrc]; · iexact Hsrc
  isplitl [G0]; · iexact G0
  isplitl [Tc0]; · iexact Tc0
  isplitl [Td0]; · iexact Td0
  iintro %v254 %v255 ⟨HO, Cc0, Hout, E1, E2⟩
  dsimp only
  iapply (step_bind c)
  iapply (part9_run m ρ K c)
  isplitr; · iexact HR
  isplitl [HO]; · iexact HO
  isplitl [E1]; · iexact E1
  isplitl [G1]; · iexact G1
  isplitl [Tc1]; · iexact Tc1
  isplitl [Td1]; · iexact Td1
  iintro ⟨HO, Cc1⟩
  iapply (step_bind c)
  iapply (part10_run m ρ K c (put c (acc m ρ c) f))
  isplitr; · iexact HR
  isplitr; · iexact Hlev
  isplitl [HO]; · iexact HO
  isplitl [E2]; · iexact E2
  isplitl [G2]; · iexact G2
  isplitl [Tc2]; · iexact Tc2
  isplitl [Td2]; · iexact Td2
  isplitl [Ad0]; · iexact Ad0
  isplitl [Hout]; · iexact Hout
  iintro ⟨HO, Cc2, D30, Hout⟩
  iapply (step_bind c)
  iapply (part11_run m ρ K c)
  isplitr; · iexact HR
  isplitr; · iexact Hlev
  isplitl [HO]; · iexact HO
  isplitl [Ad1]; · iexact Ad1
  isplitl [Ad2]; · iexact Ad2
  isplitl [Hout]; · iexact Hout
  iintro %v348 %v349 %v350 ⟨HO, D31, D32, Hout⟩
  dsimp only
  iapply (step_bind c)
  iapply (part12_run m ρ K c)
  isplitr; · iexact HR
  isplitr; · iexact Hlev
  isplitl [HO]; · iexact HO
  isplitl [D32]; · iexact D32
  isplitl [Hout]; · iexact Hout
  isplitl [Ca0 Aa0]; · iapply (pending_intro 0 0 c); isplitl [Ca0] <;> iassumption
  isplitl [Ca1 Aa1]; · iapply (pending_intro 0 1 c); isplitl [Ca1] <;> iassumption
  iintro ⟨HO, D32, Hout, D00, D01⟩
  simp only [Prog.lift, Prog.bind_op, Prog.bind_ret, Prog.pure_eq_ret, Prog.bind_assoc]
  iapply (step_collect m ρ K c 0 2 0 (mayWait_done c _) (credit_slot_st 2)) $$ [HO Ca2 Aa2]
  · isplitr; · iexact HR
    isplitr; · iexact Hlev
    isplitl [HO]; · iexact HO
    iapply (pending_intro 0 2 c); isplitl [Ca2] <;> iassumption
  iintro ⟨HO, D02⟩
  iapply (step_collect m ρ K c 2 0 0 (mayWait_done c _) credit_src) $$ [HO Cc0 Ac0]
  · isplitr; · iexact HR
    isplitr; · iexact Hlev
    isplitl [HO]; · iexact HO
    iapply (pending_intro 2 0 c); isplitl [Cc0] <;> iassumption
  iintro ⟨HO, D20⟩
  iapply (step_collect m ρ K c 2 1 0 (mayWait_done c _) credit_src) $$ [HO Cc1 Ac1]
  · isplitr; · iexact HR
    isplitr; · iexact Hlev
    isplitl [HO]; · iexact HO
    iapply (pending_intro 2 1 c); isplitl [Cc1] <;> iassumption
  iintro ⟨HO, D21⟩
  iapply (step_collect m ρ K c 2 2 0 (mayWait_done c _) credit_src) $$ [HO Cc2 Ac2]
  · isplitr; · iexact HR
    isplitr; · iexact Hlev
    isplitl [HO]; · iexact HO
    iapply (pending_intro 2 2 c); isplitl [Cc2] <;> iassumption
  iintro ⟨HO, D22⟩
  iapply (step_ret c)
  iapply Hk
  isplitl [HO]; · iexact HO
  isplitl [HzB]; · iexact HzB
  isplitl [D00 D10 D20 D30]; · iapply (done_intro m ρ c 0); isplitl [D00]; · iexact D00
                               isplitl [D10]; · iexact D10
                               isplitl [D20] <;> iassumption
  isplitl [D01 D11 D21 D31]; · iapply (done_intro m ρ c 1); isplitl [D01]; · iexact D01
                               isplitl [D11]; · iexact D11
                               isplitl [D21] <;> iassumption
  isplitl [D02 D12 D22 D32]; · iapply (done_intro m ρ c 2); isplitl [D02]; · iexact D02
                               isplitl [D12]; · iexact D12
                               isplitl [D22] <;> iassumption
  isplitl [Hops]; · iexact Hops
  iapply (Entails.of_eq (congrArg (pts c cc0_stg4_0) (out_covered m ρ c f))); iexact Hout

end Cert.Ffn

end
-- ==== Proof.Slots.lean ====
/-
  A buffer of three slots, held whole, is its slots held one by one.
-/
module

public import proofs.«01_k».proof.Proof.Body
public import Idealize.ShloMosaic.Lib.Ring

@[expose] public section

noncomputable section

namespace Cert.Ffn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

/-- Three of a kind, one by one. -/
theorem each3 (Φ : Fin 3 → sProp 𝕄) : bigSep Finset.univ Φ = iprop(Φ 0 ∗ Φ 1 ∗ Φ 2) :=
  bigSep_univ_eq_bigSepL [0, 1, 2] (by decide) (by decide) Φ

/-- Two slots have no place in common; -/
theorem slots_apart (q q' : Fin 3) (h : q ≠ q') : Disjoint (slotR q).set (slotR q').set := by
  refine Rect.disjoint_of_separated _ _ (0 : Fin 3) ?_
  revert q q'; decide
/-- every place is in a slot. -/
theorem slots_cover : (Finset.univ : Finset (Fin 3)).biUnion (fun q => (slotR q).set) = Finset.univ := by
  refine Finset.eq_univ_of_forall fun i => ?_
  have h0 : (i 0).val < 3 := (i 0).isLt
  refine Finset.mem_biUnion.mpr ⟨⟨(i 0).val, h0⟩, Finset.mem_univ _, (slotR _).mem_set.mpr fun (a : Fin 3) => ?_⟩
  match a with
  | 0 => exact ⟨0, Nat.one_pos, by show (i 0).val = (i 0).val + 1 * 0; omega⟩
  | 1 => exact ⟨(i 1).val, (i 1).isLt, by show (i 1).val = 0 + 1 * (i 1).val; omega⟩
  | 2 => exact ⟨(i 2).val, (i 2).isLt, by show (i 2).val = 0 + 1 * (i 2).val; omega⟩

section
variable (c : Dev nD) (b : Memref sig .tc .vmem S3x256x1024 .bf16)

/-- A free slot is its places, at some contents. -/
theorem free_slot (q : Fin 3) :
    (free c (slot b q) : sProp 𝕄) ⊣⊢ iprop(∃ f, b.view.loc (c : Thread nD τ) ↦[b.view.setOn (slotR q).set]{fullShare} f) := by
  rw [← slot_set]
  constructor
  · refine (show (free c (slot b q) : sProp 𝕄)
        ⊢ iprop(∃ X, ∃ f, ⌜(slot b q).view.read (Elt F) f = X⌝ ∗ (b.view.loc (c : Thread nD τ) ↦[(slot b q).view.set]{fullShare} f)) from .rfl).trans ?_
    iintro ⟨%X, %f, -, H⟩
    iexists f; iexact H
  · iintro ⟨%f, H⟩
    iapply (show iprop(∃ X, ∃ f, ⌜(slot b q).view.read (Elt F) f = X⌝ ∗ (b.view.loc (c : Thread nD τ) ↦[(slot b q).view.set]{fullShare} f))
      ⊢ (free c (slot b q) : sProp 𝕄) from .rfl)
    iexists _, f
    isplitr; · ipureintro; rfl
    iexact H

/-- Two slots share no element, -/
theorem places_apart (q q' : Fin 3) (h : q ≠ q') : Disjoint (b.view.setOn (slotR q).set) (b.view.setOn (slotR q').set) :=
  (Finset.disjoint_map _).mpr (slots_apart q q' h)
/-- and the three slots make up the buffer. -/
theorem places_cover (hb : b.view.set = Finset.univ) : (Finset.univ : Finset (Fin 3)).biUnion (fun q => b.view.setOn (slotR q).set) = Finset.univ := by
  refine Finset.eq_univ_of_forall fun i => ?_
  have hi : i ∈ b.view.set := hb ▸ Finset.mem_univ i
  obtain ⟨x, -, rfl⟩ := Finset.mem_map.mp hi
  obtain ⟨q, -, hq⟩ := Finset.mem_biUnion.mp (slots_cover ▸ Finset.mem_univ x)
  exact Finset.mem_biUnion.mpr ⟨q, Finset.mem_univ _, Finset.mem_map_of_mem _ hq⟩

/-- A whole buffer of three slots is three free slots, -/
theorem split_slots (hb : b.view.set = Finset.univ) :
    (iprop(∃ f, b.view.loc (c : Thread nD τ) ↦{fullShare} f) : sProp 𝕄) ⊢ iprop(free c (slot b 0) ∗ free c (slot b 1) ∗ free c (slot b 2)) := by
  iintro ⟨%f, H⟩
  ihave H := (Entails.of_eq (Ring.pointsTo_blocks (Ix := Unit) (Name := ℕ) (U := UU) (Lvl := ℕ) (ℓ := b.view.loc (c : Thread nD τ)) (fun q => b.view.setOn (slotR q).set) (places_apart b) (places_cover b hb) f)) $$ H
  ihave H := (Entails.of_eq (each3 fun q => iprop(b.view.loc (c : Thread nD τ) ↦[b.view.setOn (slotR q).set]{fullShare} f))) $$ H
  icases H with ⟨H0, H1, H2⟩
  isplitl [H0]; · iapply (free_slot c b 0).2; iexists f; iexact H0
  isplitl [H1]; · iapply (free_slot c b 1).2; iexists f; iexact H1
  iapply (free_slot c b 2).2; iexists f; iexact H2
/-- and three free slots are the whole buffer. -/
theorem join_slots (hb : b.view.set = Finset.univ) :
    iprop(free c (slot b 0) ∗ free c (slot b 1) ∗ free c (slot b 2)) ⊢ (iprop(∃ f, b.view.loc (c : Thread nD τ) ↦{fullShare} f) : sProp 𝕄) := by
  iintro ⟨H0, H1, H2⟩
  ihave H0 := (free_slot c b 0).1 $$ H0
  icases H0 with ⟨%f, H0⟩
  iapply (Ring.pointsTo_blocks_join_exists (ℓ := b.view.loc (c : Thread nD τ)) (fun q => b.view.setOn (slotR q).set) (places_apart b) (places_cover b hb) f)
  iapply (Entails.of_eq (each3 fun q => iprop(∃ f, b.view.loc (c : Thread nD τ) ↦[b.view.setOn (slotR q).set]{fullShare} f)).symm)
  isplitl [H0]; · iexists f; iexact H0
  isplitl [H1]; · iapply (free_slot c b 1).1; iexact H1
  iapply (free_slot c b 2).1; iexact H2

end

end Cert.Ffn

end
-- ==== Proof.Deal.lean ====
/-
  What the launch deals the devices: the protocol's cells, the token of every duty, and the units that each device
  may wait for because its peers owe them.
-/
module

public import proofs.«01_k».proof.Proof.Slots

@[expose] public section

noncomputable section

namespace Cert.Ffn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

/-! ## The cells and the tokens -/

/-- A semaphore of the protocol is known by its role. -/
theorem role_csem (k : Option (Fin 4 × Fin 3)) : roleOf (csem k) = some k := by
  match k with
  | none => exact role_bar
  | some (a, p) => exact role_xfer a p

/-- Two cells of the protocol differ. -/
theorem kcell_injective : Function.Injective (kcell : Key → GSem nD τ sig) :=
  Function.LeftInverse.injective (g := fun g : GSem nD τ sig => (g.1.1, (roleOf g.2).getD none)) fun ck => by
    show (ck.1, (roleOf (csem ck.2)).getD none) = ck
    rw [role_csem]; rfl

/-- The duty that stands at place `o` for device `c` and peer `p`: the barrier's, or that of a transfer semaphore. -/
def duty (x : Dev nD × Fin 3 × Option (Fin 4)) : GSem nD τ sig × ℕ × Fin 3 :=
  match x.2.2 with
  | none => (barCell x.1, 0, x.2.1)
  | some a => (xcell a x.2.1 x.1, 0, 0)

/-- Two duties differ. -/
theorem duty_injective : Function.Injective duty :=
  Function.LeftInverse.injective
    (g := fun y : GSem nD τ sig × ℕ × Fin 3 => (y.1.1.1, ((roleOf y.1.2).getD none).elim (y.2.2, none) fun ap => (ap.2, some ap.1)))
    fun x => by
      obtain ⟨c, p, o⟩ := x
      match o with
      | none => show (c, ((roleOf (csem none)).getD none).elim (p, none) fun ap => (ap.2, some ap.1)) = _; rw [role_csem]; rfl
      | some a => show (c, ((roleOf (csem (some (a, p)))).getD none).elim ((0 : Fin 3), none) fun ap => (ap.2, some ap.1)) = _; rw [role_csem]; rfl

/-- All the cells, and all the duties. -/
def cells : Finset (GSem nD τ sig) := Finset.univ.map ⟨kcell, kcell_injective⟩
/-- All the duties. -/
def duties : Finset (GSem nD τ sig × ℕ × Fin 3) := Finset.univ.map ⟨duty, duty_injective⟩

/-- The tokens of the duties at device `c`'s own semaphores for peer `p`. -/
def minted (c : Dev nD) (p : Fin 3) : sProp 𝕄 :=
  iprop(dutyTok ER (barCell c) 0 p ∗ dutyTok ER (xcell 0 p c) 0 0 ∗ dutyTok ER (xcell 1 p c) 0 0
    ∗ dutyTok ER (xcell 2 p c) 0 0 ∗ dutyTok ER (xcell 3 p c) 0 0)

/-- Over all cells is over all devices and their semaphores. -/
theorem over_cells (Φ : GSem nD τ sig → sProp 𝕄) :
    bigSep cells Φ = bigSep Finset.univ fun c : Dev nD => bigSep Finset.univ fun k : Option (Fin 4 × Fin 3) => Φ (kcell (c, k)) := by
  unfold cells; rw [bigSep_map, bigSep_univ_prod]; rfl

/-- The tokens of all duties, sorted by the device they stand at. -/
theorem over_duties : bigSep duties (fun x => (dutyTok ER x.1 x.2.1 x.2.2 : sProp 𝕄))
    = bigSep Finset.univ fun c : Dev nD => bigSep Finset.univ fun p : Fin 3 => minted c p := by
  unfold duties; rw [bigSep_map, bigSep_univ_prod]
  refine bigSep_congr fun c _ => ?_
  rw [bigSep_univ_prod]
  refine bigSep_congr fun p _ => ?_
  rw [bigSep_univ_eq_bigSepL [none, some 0, some 1, some 2, some 3] (by decide) (by decide)]
  rfl

/-- A device and its peer, from the peer's side: `p` seen from there is `rev p`, -/
def across : Dev nD × Fin 3 ≃ Dev nD × Fin 3 where
  toFun x := (peer x.2 x.1, rev x.2)
  invFun x := (peer x.2 x.1, rev x.2)
  left_inv x := by show (peer (rev x.2) (peer x.2 x.1), rev (rev x.2)) = x; rw [peer_rev_peer, rev_rev]
  right_inv x := by show (peer (rev x.2) (peer x.2 x.1), rev (rev x.2)) = x; rw [peer_rev_peer, rev_rev]
/-- or under the same name. -/
def along : Dev nD × Fin 3 ≃ Dev nD × Fin 3 where
  toFun x := (peer x.2 x.1, x.2)
  invFun x := (peer (rev x.2) x.1, x.2)
  left_inv x := by show (peer (rev x.2) (peer x.2 x.1), x.2) = x; rw [peer_rev_peer]
  right_inv x := by show (peer x.2 (peer (rev x.2) x.1), x.2) = x; rw [peer_peer_rev]

/-- The tokens go to the devices that pay: those of sends stay, the others go to the peer concerned. -/
theorem deal : (bigSep Finset.univ fun c : Dev nD => bigSep Finset.univ fun p : Fin 3 => (minted c p : sProp 𝕄))
    ⊢ bigSep Finset.univ fun c : Dev nD => bigSep Finset.univ fun p : Fin 3 => tokens c p := by
  rw [← bigSep_univ_prod (fun x : Dev nD × Fin 3 => (minted x.1 x.2 : sProp 𝕄)), ← bigSep_univ_prod (fun x : Dev nD × Fin 3 => (tokens x.1 x.2 : sProp 𝕄))]
  unfold minted tokens
  rw [bigSep_sep', bigSep_sep', bigSep_sep', bigSep_sep', bigSep_sep', bigSep_sep', bigSep_sep', bigSep_sep',
    bigSep_univ_equiv along (fun x : Dev nD × Fin 3 => (dutyTok ER (barCell x.1) 0 x.2 : sProp 𝕄)),
    bigSep_univ_equiv across (fun x : Dev nD × Fin 3 => (dutyTok ER (xcell 1 x.2 x.1) 0 0 : sProp 𝕄)),
    bigSep_univ_equiv across (fun x : Dev nD × Fin 3 => (dutyTok ER (xcell 3 x.2 x.1) 0 0 : sProp 𝕄))]
  exact .rfl

/-! ## The units that are owed -/

/-- Which peer payment `k` goes to, -/
def duePeer : ℕ → Fin 3
  | 0 | 3 | 6 => 2
  | 1 | 4 | 7 => 1
  | _ => 0
/-- and to which of its semaphores. -/
def dueKey : ℕ → Option (Fin 4 × Fin 3)
  | 0 => some (3, 0)
  | 1 => some (3, 1)
  | 2 => some (3, 2)
  | 3 => some (1, 0)
  | 4 => some (1, 1)
  | 5 => some (1, 2)
  | _ => none

/-- The cell of the `k`-th due unit, by device and key. -/
theorem dueCell_eq (d : Dev nD) (k : ℕ) : dueCell d k = kcell (peer (duePeer k) d, dueKey k) := by
  match k with
  | 0 | 1 | 2 | 3 | 4 | 5 | 6 | 7 => rfl
  | n + 8 => rfl

/-- What a device owes a cell is the sum of its payments there. -/
theorem owing_apply (d : Dev nD) (n : ℕ) (g : GSem nD τ sig) : owing d n g () = ∑ k ∈ Finset.range n, if g = dueCell d k then dueAmt k else 0 := by
  induction n with
  | zero => rfl
  | succ n ih =>
    rw [Finset.sum_range_succ, ← ih]
    show owing d n g () + tallyAt (dueCell d n) () (dueAmt n) g () = _
    rw [tallyAt_apply]
    by_cases h : g = dueCell d n
    · rw [if_pos ⟨h, rfl⟩, if_pos h]
    · rw [if_neg (fun h' => h h'.1), if_neg h]

/-- All the units that come to a semaphore. -/
def income (key : Option (Fin 4 × Fin 3)) : ℕ := ∑ k ∈ Finset.range 9, if key = dueKey k then dueAmt k else 0

/-- The barrier gets a unit from each peer, -/
theorem income_bar : income none = 3 := by
  unfold income; simp only [Finset.sum_range_succ, Finset.sum_range_zero, dueKey, dueAmt]; rfl
/-- a reduce-scatter receive one transfer, -/
theorem income_rs (p : Fin 3) : income (some (1, p)) = N := by
  unfold income; simp only [Finset.sum_range_succ, Finset.sum_range_zero, dueKey, dueAmt]
  generalize N = n
  fin_cases p <;> simp
/-- an all-gather receive too. -/
theorem income_ag (p : Fin 3) : income (some (3, p)) = N := by
  unfold income; simp only [Finset.sum_range_succ, Finset.sum_range_zero, dueKey, dueAmt]
  generalize N = n
  fin_cases p <;> simp

/-- What all devices owe a cell. -/
theorem owed_sum (c : Dev nD) (key : Option (Fin 4 × Fin 3)) : ∑ d : Dev nD, owing d 9 (kcell (c, key)) () = income key := by
  rw [Finset.sum_congr rfl fun d _ => owing_apply d 9 (kcell (c, key)), Finset.sum_comm]
  refine Finset.sum_congr rfl fun k _ => ?_
  rw [Finset.sum_eq_single (peer (rev (duePeer k)) c) (fun d _ hd => if_neg fun h => hd ?_) (fun h => absurd (Finset.mem_univ _) h), dueCell_eq, peer_peer_rev]
  · by_cases h : key = dueKey k
    · rw [if_pos (by rw [h]), if_pos h]
    · rw [if_neg (fun h' => h (congrArg Prod.snd (kcell_injective h'))), if_neg h]
  · rw [dueCell_eq] at h
    have h' : c = peer (duePeer k) d := congrArg Prod.fst (kcell_injective h)
    rw [h', peer_rev_peer]

/-- The launch gives each device a claim on all the units that come to it. -/
theorem claims (c : Dev nD) : (Pipeline.launchCred (fun d => owing d 9) c : sProp 𝕄)
    ⊢ bigSep Finset.univ fun k : Option (Fin 4 × Fin 3) => cred (tallyAt (kcell (c, k)) () (income k)) := by
  unfold Pipeline.launchCred
  refine (bigSep_subset (Finset.subset_univ (Finset.univ.map ⟨csem, fun a b h => congrArg Prod.snd
    (kcell_injective (show kcell (c, a) = kcell (c, b) from congrArg (Prod.mk (c : Thread nD τ)) h))⟩))).trans ?_
  rw [bigSep_map]
  refine bigSep_mono fun k _ => Entails.of_eq (congrArg cred ?_)
  unfold tallyAt; refine congrArg _ (Finsupp.ext fun u => ?_); cases u
  rw [Pipeline.launchCredit_owing, Finsupp.single_eq_same]
  exact owed_sum c k

end Cert.Ffn

end
-- ==== Proof.Fund.lean ====
/-
  The launch's one global step: every semaphore of every device becomes a cell of the protocol, and each device keeps
  its places, the tokens it pays with and the record of all cells.
-/
module

public import proofs.«01_k».proof.Proof.Deal

@[expose] public section

noncomputable section

namespace Cert.Ffn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

/-- The thirteen semaphores of a device: the barrier, and four for each peer. -/
theorem each_cell (Φ : Option (Fin 4 × Fin 3) → sProp 𝕄) : bigSep Finset.univ Φ
    = iprop(Φ none ∗ bigSep Finset.univ fun p : Fin 3 => iprop(Φ (some (0, p)) ∗ Φ (some (1, p)) ∗ Φ (some (2, p)) ∗ Φ (some (3, p)))) := by
  have hs : (Finset.univ : Finset (Option (Fin 4 × Fin 3))) = insert none (Finset.univ.map Function.Embedding.some) := by decide
  rw [hs, bigSep_insert (by decide), bigSep_map, bigSep_univ_equiv (Equiv.prodComm (Fin 3) (Fin 4)), bigSep_univ_prod]
  refine congrArg (fun P => iprop(Φ none ∗ P)) (bigSep_congr fun p _ => ?_)
  rw [bigSep_univ_eq_bigSepL [(0 : Fin 4), 1, 2, 3] (by decide) (by decide)]
  rfl

/-- The kernel's own semaphores at zero are the four for each peer, -/
theorem own_zero (c : Dev nD) : (Pipeline.ownSems0 (Ix := Unit) (Name := ℕ) (U := UU) (Lvl := ℕ) (Val := Elt F) (τ := τ) osem c : sProp 𝕄)
    = bigSep Finset.univ fun p : Fin 3 => iprop(semVal (xcell 0 p c) 0 ∗ semVal (xcell 1 p c) 0 ∗ semVal (xcell 2 p c) 0 ∗ semVal (xcell 3 p c) 0) := by
  unfold Pipeline.ownSems0
  rw [bigSep_univ_equiv ((Equiv.prodComm (Fin 3) (Fin 4)).trans finProdFinEquiv), bigSep_univ_prod]
  refine bigSep_congr fun p _ => ?_
  have h (a : Fin 4) : osem (((Equiv.prodComm (Fin 3) (Fin 4)).trans finProdFinEquiv) (p, a)) = .dma (xsem a p) := by
    revert a p; decide
  rw [bigSep_univ_eq_bigSepL [(0 : Fin 4), 1, 2, 3] (by decide) (by decide), bigSepL_cons_cons, bigSepL_cons_cons, bigSepL_cons_cons, bigSepL_singleton, h, h, h, h]
  rfl
/-- and the barrier is the one semaphore that is not the kernel's own. -/
theorem bar_zero (c : Dev nD) : (unscopedSems0 c : sProp 𝕄) = semVal (barCell c) 0 := by
  unfold unscopedSems0; rw [bigSep_eq_bigSepL_of_eq [SemLoc.reg barS] (by decide) (by decide)]; rfl

/-- What the ghost state's first element gives device `c`. -/
def dealt (c : Dev nD) : sProp 𝕄 :=
  iprop((bigSep Finset.univ fun k => roundState ER (Rd m ρ) (kcell (c, k)) 0)
    ∗ (bigSep Finset.univ fun k => iprop(atPos ER (kcell (c, k)) 0 ∅ 0 ∗ reached ER (kcell (c, k)) 0))
    ∗ bigSep Finset.univ fun p : Fin 3 => minted c p)

/-- What stays with device `c`: its places and the tokens it pays with; -/
def kept (c : Dev nD) : sProp 𝕄 :=
  iprop((bigSep Finset.univ fun k => atPos ER (kcell (c, k)) 0 ∅ 0) ∗ bigSep Finset.univ fun p : Fin 3 => tokens c p)
/-- with the record of all cells. -/
def ready (c : Dev nD) : sProp 𝕄 := iprop(∃ K, records m ρ K ∗ kept c)

/-- The protocol's ghost state is dealt to the devices. -/
theorem fund_cells : BI.own (ER (initOf cells duties)) ⊢ (|==> bigSep Finset.univ (dealt m ρ) : sProp 𝕄) := by
  iintro HX
  imod (Rounds.fund ER (Rd m ρ) cells duties) $$ HX with ⟨Hst, Hr, Hat, Htok⟩
  imodintro
  ihave Hst := (Entails.of_eq (over_cells fun g => roundState ER (Rd m ρ) g 0)) $$ Hst
  ihave Hat := (Entails.of_eq (over_cells fun g => atPos ER g 0 ∅ 0)) $$ Hat
  ihave Hr := (Entails.of_eq (over_cells fun g => reached ER g 0)) $$ Hr
  ihave Htok := (Entails.of_eq over_duties) $$ Htok
  unfold dealt; simp only [bigSep_sep']
  isplitl [Hst]; · iexact Hst
  isplitl [Hat Hr]
  · isplitl [Hat] <;> iassumption
  iexact Htok

/-- A device's semaphores become cells. -/
theorem open_cells (c : Dev nD) :
    iprop(Pipeline.ownSems0 (Ix := Unit) (Name := ℕ) (U := UU) (Lvl := ℕ) (Val := Elt F) (τ := τ) osem c ∗ unscopedSems0 c ∗ dealt m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0))
          ∗ bigSep Finset.univ fun p : Fin 3 => minted c p) := by
  unfold dealt
  rw [own_zero, bar_zero]
  iintro ⟨Hos, Hus, Hst, Hat, Htok⟩
  imod (show iprop((bigSep Finset.univ fun k => semVal (kcell (c, k)) 0) ∗ bigSep Finset.univ fun k => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hos Hus Hst] with Hinv
  · isplitl [Hos Hus]
    · iapply (Entails.of_eq (each_cell fun k => semVal (kcell (c, k)) 0).symm)
      isplitl [Hus] <;> iassumption
    iexact Hst
  imodintro
  isplitl [Hinv]; · iexact Hinv
  isplitl [Hat]; · iexact Hat
  iexact Htok

/-- What the devices have then, gathered: all cells on record with every device. -/
theorem gather :
    (bigSep Finset.univ fun c : Dev nD => iprop((bigSep Finset.univ fun k => iprop(∃ κ : ℕ, cellInv ER (Rd m ρ) κ (kcell (c, k))))
        ∗ (bigSep Finset.univ fun k => iprop(atPos ER (kcell (c, k)) 0 ∅ 0 ∗ reached ER (kcell (c, k)) 0))
        ∗ bigSep Finset.univ fun p : Fin 3 => minted c p) : sProp 𝕄)
      ⊢ bigSep Finset.univ (ready m ρ) := by
  rw [bigSep_sep', bigSep_sep', ← bigSep_univ_prod (fun ck : Key => iprop(∃ κ : ℕ, cellInv ER (Rd m ρ) κ (kcell ck))),
    bigSep_congr (s := Finset.univ) (fun (c : Dev nD) _ => bigSep_sep' Finset.univ (fun k => (atPos ER (kcell (c, k)) 0 ∅ 0 : sProp 𝕄)) (fun k => reached ER (kcell (c, k)) 0)),
    bigSep_sep', ← bigSep_univ_prod (fun ck : Key => (reached ER (kcell ck) 0 : sProp 𝕄))]
  iintro ⟨HI, ⟨Hat, #HR⟩, Htok⟩
  ihave HK := (BI.bigSep_exists_pi Finset.univ (fun (ck : Key) (κ : ℕ) => (cellInv ER (Rd m ρ) κ (kcell ck) : sProp 𝕄))) $$ HI
  icases HK with ⟨%K, #HI⟩
  ihave Htk := (deal (F := F)) $$ Htok
  iapply (BI.bigSep_with_persistent (R := records m ρ K) (Φ := kept) fun c _ => show iprop(records m ρ K ∗ kept c) ⊢ ready m ρ c from by
    unfold ready; iintro H; iexists K; iexact H)
  isplitr
  · unfold records; isplitl; · iexact HI
    iexact HR
  · unfold kept; rw [bigSep_sep']
    isplitl [Hat] <;> iassumption

/-- The global step. -/
theorem open_all : (bigSep Finset.univ fun c => iprop(Pipeline.ownSems0 (Ix := Unit) (Name := ℕ) (U := UU) (Lvl := ℕ) (Val := Elt F) (τ := τ) osem c
      ∗ unscopedSems0 c ∗ dealt m ρ c) : sProp 𝕄)
    ⊢ |={Set.univ}=> bigSep Finset.univ (ready m ρ) :=
  ((bigSep_mono fun c _ => open_cells m ρ c).trans (bigSep_fupd _ _)).trans (BI.fupd_mono (gather m ρ))

end Cert.Ffn

end
-- ==== Proof.Launch.lean ====
/-
  The launch: what each device holds as the kernel starts and as it ends, the kernel's obligation to the pipeline, and
  the run of the whole program.
-/
module

public import proofs.«01_k».proof.Proof.Fund

@[expose] public section

noncomputable section

namespace Cert.Ffn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

/-! ## Before and after the kernel -/

/-- What device `c` brings to the kernel besides its scratch buffers. -/
def brought (c : Dev nD) : sProp 𝕄 :=
  iprop(ready m ρ c ∗ (bigSep Finset.univ fun k : Option (Fin 4 × Fin 3) => cred (tallyAt (kcell (c, k)) () (income k))) ∗ levAts L lv)

/-- A buffer with any contents. -/
abbrev room (c : Dev nD) (b : Ref sig .tc) : sProp 𝕄 := iprop(∃ f : Buf (Elt F) ((c : Thread nD τ).loc b), pts c b f)
/-- The four scratch buffers. -/
def scratch (c : Dev nD) : sProp 𝕄 := iprop(room c cc0_scratch0 ∗ room c cc0_scratch1 ∗ room c cc0_scratch2 ∗ room c cc0_scratch3)

/-- Before the kernel, -/
def Φ₀ (c : Dev nD) : sProp 𝕄 := iprop(brought m ρ c ∗ scratch c)
/-- and after it: every semaphore at zero. -/
def Φ₁ (c : Dev nD) : sProp 𝕄 :=
  iprop(unscopedSems0 c ∗ Pipeline.ownSems0 (Ix := Unit) (Name := ℕ) (U := UU) (Lvl := ℕ) (Val := Elt F) (τ := τ) osem c ∗ scratch c)

/-- The three slots of a scratch buffer, from the buffer; -/
theorem rooms_of (c : Dev nD) (b : Ref sig .tc) (X : Memref sig .tc .vmem S3x256x1024 .bf16) (h : X.view.set = Finset.univ)
    (hX : (room (F := F) c b) ⊢ (iprop(∃ f, X.view.loc (c : Thread nD τ) ↦{fullShare} f) : sProp 𝕄)) :
    (room c b : sProp 𝕄) ⊢ bigSep Finset.univ fun p : Fin 3 => free c (slot X p) :=
  hX.trans ((split_slots c X h).trans (Entails.of_eq (each3 fun p => free c (slot X p)).symm))

/-- and back. -/
theorem rooms_to (c : Dev nD) (b : Ref sig .tc) (X : Memref sig .tc .vmem S3x256x1024 .bf16) (h : X.view.set = Finset.univ)
    (hX : (iprop(∃ f, X.view.loc (c : Thread nD τ) ↦{fullShare} f) : sProp 𝕄) ⊢ room (F := F) c b) :
    (bigSep Finset.univ fun p : Fin 3 => free c (slot X p)) ⊢ (room c b : sProp 𝕄) :=
  ((Entails.of_eq (each3 fun p => free c (slot X p))).trans (join_slots c X h)).trans hX

/-- What is dealt for peer `p` is what the run starts with for it. -/
theorem start_each (c : Dev nD) (p : Fin 3) : iprop(tokens c p
        ∗ (atPos ER (xcell 0 p c) 0 ∅ 0 ∗ atPos ER (xcell 1 p c) 0 ∅ 0 ∗ atPos ER (xcell 2 p c) 0 ∅ 0 ∗ atPos ER (xcell 3 p c) 0 ∅ 0)
        ∗ (cred (tallyAt (xcell 0 p c) () (income (some (0, p)))) ∗ cred (tallyAt (xcell 1 p c) () (income (some (1, p))))
          ∗ cred (tallyAt (xcell 2 p c) () (income (some (2, p)))) ∗ cred (tallyAt (xcell 3 p c) () (income (some (3, p)))))
        ∗ free c (slot stM p) ∗ free c (slot rsM p) ∗ free c (slot agM p)) ⊢ (start c p : sProp 𝕄) := by
  unfold start seats rooms slots pending
  rw [income_rs, income_ag]
  iintro ⟨T, ⟨A0, A1, A2, A3⟩, ⟨-, C1, -, C3⟩, R0, R1, R2⟩
  isplitl [T]; · iexact T
  isplitl [A0 A1 A2 A3 C1 C3]
  · isplitl [A0]; · iexact A0
    isplitl [A1 C1]; · isplitl [C1] <;> iassumption
    isplitl [A2]; · iexact A2
    isplitl [C3] <;> iassumption
  isplitl [R0]; · iexact R0
  isplitl [R1] <;> iassumption

/-- Over every peer, what is held for it changes as it does for one. -/
theorem every {Φ Ψ : Fin 3 → sProp 𝕄} (h : ∀ p, Φ p ⊢ Ψ p) : bigSep Finset.univ Φ ⊢ bigSep Finset.univ Ψ := bigSep_mono fun p _ => h p

/-- What a device brings is what its run starts with. -/
theorem start_all (c : Dev nD) :
    iprop(kept c ∗ (bigSep Finset.univ fun k : Option (Fin 4 × Fin 3) => cred (tallyAt (kcell (c, k)) () (income k))) ∗ scratch c)
      ⊢ (iprop(cred (tallyAt (barCell c) () 3) ∗ atPos ER (barCell c) 0 ∅ 0 ∗ (start c 0 ∗ start c 1 ∗ start c 2) ∗ room c cc0_scratch2) : sProp 𝕄) := by
  unfold kept scratch
  rw [each_cell (fun k => atPos ER (kcell (c, k)) 0 ∅ 0), each_cell (fun k => cred (tallyAt (kcell (c, k)) () (income k)))]
  iintro ⟨⟨⟨Hab, Hat⟩, Htok⟩, ⟨Hcb, Hcr⟩, Hst, Hrs, Hsrc, Hag⟩
  isplitl [Hcb]; · iapply (Entails.of_eq (congrArg (fun n => cred (tallyAt (barCell c) () n)) income_bar)); iexact Hcb
  isplitl [Hab]; · iexact Hab
  isplitl [Hat Htok Hcr Hst Hrs Hag]
  · ihave Hst := (rooms_of c cc0_scratch0 stM (View.set_whole _) .rfl) $$ Hst
    ihave Hrs := (rooms_of c cc0_scratch1 rsM (View.set_whole _) .rfl) $$ Hrs
    ihave Hag := (rooms_of c cc0_scratch3 agM (View.set_whole _) .rfl) $$ Hag
    iapply (Entails.of_eq (each3 fun p => start c p))
    iapply (every (start_each c))
    simp only [bigSep_sep']
    isplitl [Htok]; · iexact Htok
    isplitl [Hat]; · iexact Hat
    isplitl [Hcr]; · iexact Hcr
    isplitl [Hst]; · iexact Hst
    isplitl [Hrs] <;> iassumption
  iexact Hsrc

/-- A block with known contents is a block with any. -/
theorem forget (c : Dev nD) (b : Memref sig .tc .vmem S256x1024 .bf16) (X : Vec F S256x1024 .bf16) : (blk c b fullShare X : sProp 𝕄) ⊢ free c b := by
  unfold free; iintro H; iexists X; iexact H

/-- What the four transfers with peer `p` leave: their semaphores at zero and their slots. -/
theorem done_each (c : Dev nD) (p : Fin 3) : done m ρ c p ⊢
    iprop((semVal (xcell 0 p c) 0 ∗ semVal (xcell 1 p c) 0 ∗ semVal (xcell 2 p c) 0 ∗ semVal (xcell 3 p c) 0)
      ∗ free c (slot stM p) ∗ free c (slot rsM p) ∗ free c (slot agM p) ∗ blk c srcM (third p) (accs m ρ c)) := by
  unfold done
  rw [arrived_sent, arrived_part, arrived_gone, arrived_chunk]
  iintro ⟨⟨Z0, B0⟩, ⟨Z1, B1⟩, ⟨Z2, B2⟩, ⟨Z3, B3⟩⟩
  isplitl [Z0 Z1 Z2 Z3]
  · isplitl [Z0]; · iexact Z0
    isplitl [Z1]; · iexact Z1
    isplitl [Z2] <;> iassumption
  isplitl [B0]; · iapply (forget c); iexact B0
  isplitl [B1]; · iapply (forget c); iexact B1
  isplitl [B3]; · iapply (forget c); iexact B3
  iexact B2

/-- The outgoing chunk is whole again when its three thirds are back. -/
theorem chunk_back (c : Dev nD) (X : Vec F S256x1024 .bf16) : (bigSep Finset.univ fun p : Fin 3 => blk c srcM (third p) X) ⊢ (room c cc0_scratch2 : sProp 𝕄) := by
  refine ((Entails.of_eq (each3 fun p => blk c srcM (third p) X)).trans (thirds c srcM X).2).trans ?_
  refine (Entails.of_eq (owns_whole_eq (c : Thread nD τ) cc0_scratch2 fullShare X)).trans ?_
  iintro ⟨%f, -, H⟩; iexists f; iexact H

/-- What its run ends with is what the device gives back. -/
theorem finish_all (c : Dev nD) :
    iprop(semVal (barCell c) 0 ∗ done m ρ c 0 ∗ done m ρ c 1 ∗ done m ρ c 2) ⊢ Φ₁ (F := F) c := by
  unfold Φ₁ scratch
  rw [bar_zero, own_zero]
  refine (sep_mono_right ((Entails.of_eq (each3 fun p => done m ρ c p).symm).trans (every (done_each m ρ c)))).trans ?_
  simp only [bigSep_sep']
  iintro ⟨Hb, Hz, Hst, Hrs, Hag, Hsrc⟩
  isplitl [Hb]; · iexact Hb
  isplitl [Hz]; · iexact Hz
  isplitl [Hst]; · iapply (rooms_to c cc0_scratch0 stM (View.set_whole _) .rfl); iexact Hst
  isplitl [Hrs]; · iapply (rooms_to c cc0_scratch1 rsM (View.set_whole _) .rfl); iexact Hrs
  isplitl [Hsrc]; · iapply (chunk_back c (accs m ρ c)); iexact Hsrc
  iapply (rooms_to c cc0_scratch3 agM (View.set_whole _) .rfl); iexact Hag

/-! ## The kernel's obligation -/

/-- What the pipeline sees of the kernel on device `c`: the operands' arrays as they were, the result's block, what is held before and after, and what is owed. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => gstg m ρ c
    | ⟨2, _⟩ => ustg m ρ c
    | ⟨3, _⟩ => dstg m ρ c
    | ⟨4, _⟩ => outAt m ρ c
  Φ t := match t with
    | ⟨0, _⟩ => Φ₀ m ρ c
    | ⟨_ + 1, _⟩ => Φ₁ c
  q _ := fullShare
  owed t := match t with
    | ⟨0, _⟩ => owing c 9
    | ⟨_ + 1, _⟩ => owing c 0

/-- A staged operand, with its contents named. -/
abbrev staged (c : Dev nD) (b : Ref sig .tc) (X : b.ty.Contents (Elt F)) : sProp 𝕄 :=
  iprop(∃ f : Buf (Elt F) ((c : Thread nD τ).loc b), ⌜f = X⌝ ∗ pts c b f)
/-- A staging buffer at known contents is staged, -/
theorem staged_intro (c : Dev nD) (b : Ref sig .tc) (X : b.ty.Contents (Elt F)) : pts c b X ⊢ (staged c b X : sProp 𝕄) := by
  iintro H; iexists X; isplitr; · (ipureintro; rfl)
  iexact H
/-- and what is staged can be read at equal contents. -/
theorem staged_elim (c : Dev nD) (b : Ref sig .tc) (X Y : b.ty.Contents (Elt F)) (h : X = Y) : (staged c b X : sProp 𝕄) ⊢ pts c b Y := by
  subst h; iintro ⟨%f, %hf, H⟩; subst hf; iexact H

/-- The obligation's two sides. -/
def bodyPre (c : Dev nD) : sProp 𝕄 :=
  iprop(Φ₀ m ρ c ∗ (dats m ρ 0 c).owesAt () (Fin.castSucc (t0_0 : Fin cfg0.N))
    ∗ (∃ d, staged c cc0_stg0_0 ((dats m ρ 0 c).before (0 : Fin 5) t0_0 d))
    ∗ (∃ d, staged c cc0_stg1_0 ((dats m ρ 0 c).before (1 : Fin 5) t0_0 d))
    ∗ (∃ d, staged c cc0_stg2_0 ((dats m ρ 0 c).before (2 : Fin 5) t0_0 d))
    ∗ (∃ d, staged c cc0_stg3_0 ((dats m ρ 0 c).before (3 : Fin 5) t0_0 d))
    ∗ (∃ d, staged c cc0_stg4_0 ((dats m ρ 0 c).before (4 : Fin 5) t0_0 d)))
/-- What the body leaves of the staging buffers. -/
def bodyPost (c : Dev nD) : sProp 𝕄 :=
  iprop(Φ₁ c ∗ (dats m ρ 0 c).owesAt () (Fin.succ (t0_0 : Fin cfg0.N))
    ∗ staged c cc0_stg0_0 (xstg m ρ c) ∗ staged c cc0_stg1_0 (gstg m ρ c) ∗ staged c cc0_stg2_0 (ustg m ρ c) ∗ staged c cc0_stg3_0 (dstg m ρ c)
    ∗ staged c cc0_stg4_0 (outAt m ρ c))

/-- Before the body each operand's staging buffer holds the operand. -/
theorem before_x (c : Dev nD) (d) : (dats m ρ 0 c).before (0 : Fin 5) t0_0 d = xstg m ρ c := by unfold Dat.before; rw [if_pos (fetch0_0 t0_0)]; rfl
theorem before_g (c : Dev nD) (d) : (dats m ρ 0 c).before (1 : Fin 5) t0_0 d = gstg m ρ c := by unfold Dat.before; rw [if_pos (fetch0_1 t0_0)]; rfl
theorem before_u (c : Dev nD) (d) : (dats m ρ 0 c).before (2 : Fin 5) t0_0 d = ustg m ρ c := by unfold Dat.before; rw [if_pos (fetch0_2 t0_0)]; rfl
theorem before_d (c : Dev nD) (d) : (dats m ρ 0 c).before (3 : Fin 5) t0_0 d = dstg m ρ c := by unfold Dat.before; rw [if_pos (fetch0_3 t0_0)]; rfl

/-- What is owed, as the pipeline says it and as the steps do. -/
theorem owe_start (c : Dev nD) : (dats m ρ 0 c).owesAt () (Fin.castSucc (t0_0 : Fin cfg0.N)) ⊢ owe (F := F) c 9 := by
  unfold Dat.owesAt Pipeline.owesWithin owe
  iintro ⟨%W, %hW, HO⟩; iexists W; iexact HO
/-- At the end nothing is owed. -/
theorem owe_end (c : Dev nD) : owe (F := F) c 0 ⊢ (dats m ρ 0 c).owesAt () (Fin.succ (t0_0 : Fin cfg0.N)) := by
  unfold Dat.owesAt Pipeline.owesWithin owe
  iintro ⟨%W, HO⟩; iexists W
  isplitr; · ipureintro; exact fun _ _ => Or.inl trivial
  iexact HO

set_option maxRecDepth 4000 in
/-- The kernel's obligation, by its run. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ run c (cc0_body (F := F) xM (Memref.isWhole_whole _) gM (Memref.isWhole_whole _) uM (Memref.isWhole_whole _) dM (Memref.isWhole_whole _)
          oM (Memref.isWhole_whole _) stM (Memref.isWhole_whole _) rsM (Memref.isWhole_whole _) srcM (Memref.isWhole_whole _) agM (Memref.isWhole_whole _)
          cc0_scratch4 cc0_scratch5 cc0_scratch6 cc0_scratch7) (fun _ => bodyPost m ρ c)
  unfold bodyPre Φ₀ brought ready
  iintro ⟨⟨⟨⟨%K, #HR, Hk⟩, Hcl, #Hlev⟩, Hsc⟩, Ho, ⟨%d0, Hx⟩, ⟨%d1, Hg⟩, ⟨%d2, Hu⟩, ⟨%d3, Hd⟩, ⟨%d4, %f, %hf, Hout⟩⟩
  ihave Hs := (start_all c) $$ [Hk Hcl Hsc]
  · isplitl [Hk]; · iexact Hk
    isplitl [Hcl] <;> iassumption
  icases Hs with ⟨Hcb, Hab, ⟨S0, S1, S2⟩, Hsrc⟩
  iapply (body_run m ρ K c f fun _ => bodyPost m ρ c)
  isplitr; · iexact HR
  isplitr; · iexact Hlev
  isplitl [Ho]; · iapply (owe_start m ρ c); iexact Ho
  isplitl [Hcb]; · iexact Hcb
  isplitl [Hab]; · iexact Hab
  isplitl [S0]; · iexact S0
  isplitl [S1]; · iexact S1
  isplitl [S2]; · iexact S2
  isplitl [Hsrc]; · iexact Hsrc
  isplitl [Hx Hg Hu Hd]
  · unfold ops
    isplitl [Hx]; · iapply (staged_elim c cc0_stg0_0 _ _ (before_x m ρ c d0)); iexact Hx
    isplitl [Hg]; · iapply (staged_elim c cc0_stg1_0 _ _ (before_g m ρ c d1)); iexact Hg
    isplitl [Hu]; · iapply (staged_elim c cc0_stg2_0 _ _ (before_u m ρ c d2)); iexact Hu
    iapply (staged_elim c cc0_stg3_0 _ _ (before_d m ρ c d3)); iexact Hd
  isplitl [Hout]; · iexact Hout
  unfold ops bodyPost
  iintro ⟨HO, Hb, D0, D1, D2, ⟨Hx, Hg, Hu, Hd⟩, Hout⟩
  isplitl [Hb D0 D1 D2]
  · iapply (finish_all m ρ c)
    isplitl [Hb]; · iexact Hb
    isplitl [D0]; · iexact D0
    isplitl [D1] <;> iassumption
  isplitl [HO]; · iapply (owe_end m ρ c); iexact HO
  isplitl [Hx]; · iapply (staged_intro c cc0_stg0_0); iexact Hx
  isplitl [Hg]; · iapply (staged_intro c cc0_stg1_0); iexact Hg
  isplitl [Hu]; · iapply (staged_intro c cc0_stg2_0); iexact Hu
  isplitl [Hd]; · iapply (staged_intro c cc0_stg3_0); iexact Hd
  iapply (staged_intro c cc0_stg4_0); iexact Hout

end Cert.Ffn

end
-- ==== Proof.Run.lean ====
/-
  The run of the whole program from any memory: it ends, with the operands as they were, every semaphore at zero and
  the result on each device.
-/
module

public import proofs.«01_k».proof.Proof.Launch
public import Idealize.ShloMosaic.Lib.Pipeline.CollectiveSegs

@[expose] public section

noncomputable section

namespace Cert.Ffn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

/-- The ghost state at launch: the pipeline's and the protocol's. -/
def u₀ : UU := (initOf (Pipeline.cells cfgs cellOf_inj) (Pipeline.launchToks cfgs cellOf_inj), initOf cells duties)

/-- The call's own semaphores are apart from its windows' ones. -/
theorem own_facts : Pipeline.OwnSemFacts cfg0.spec osem := by decide

/-- Every window is held in full. -/
theorem share_full (c : Dev nD) (w : Fin cfg0.W) : (dats m ρ 0 c).share w = fullShare := by unfold Dat.share; split <;> rfl

/-- A device may wait at the pipeline's staging semaphores. -/
theorem waits (c : Dev nD) : (levAts L lv : sProp 𝕄) ⊢ Pipeline.cellsWaits cfgs (dats m ρ) () 0 c :=
  Pipeline.cellsWaits_intro cfgs (dats m ρ) () 0 c fun w s t => by
    have hk : kindOf ((cfg0.win w).sem s) = none := by revert w s; decide
    rcases t with ⟨_ | _, ht⟩
    · exact mayWait_stage c _ hk 9
    · exact mayWait_stage c _ hk 0

/-- What a device brings, out of the launch's gifts. -/
theorem brought_intro (c : Dev nD) :
    iprop(Pipeline.unscopedRestP Pipeline.Prefetch.none cfg0.spec c (fun b => m ((c : Thread nD τ).loc b)) ∗ levAts L lv
        ∗ Pipeline.launchCred (fun d => owing d 9) c ∗ prngReg c (ρ c) ∗ ready m ρ c)
      ⊢ |={Set.univ}=> iprop(brought m ρ c ∗ emp) := by
  iintro ⟨-, Hlev, Hcr, -, HG⟩
  ihave Hc := (claims (F := F) c) $$ Hcr
  imodintro
  unfold brought
  isplitl
  · isplitl [HG]; · iexact HG
    isplitl [Hc] <;> iassumption
  · iempintro

/-- The state before the kernel, -/
theorem before_intro (c : Dev nD) :
    iprop(brought m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs] <;> iassumption

/-- and after it. -/
theorem after_elim (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scratch
  exact .rfl

/-- The array of window `w` on device `c` as the run ends. -/
def finalA (c : Dev nD) (w : Fin cfg0.W) : Buf (Elt F) ((cfg0.win w).arr.view.loc (c : Thread nD τ)) := (dats m ρ 0 c).arrAt w cfg0.N

/-- Every window's array holds that on every device. -/
def Ends : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with its counters at zero, the program ends on all four devices, with its arrays so and every counter at zero again. -/
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ own_facts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_full m ρ)
    (hdistinct := winFacts0.arr_inj)
    (O₀ := fun d => owing d 9) (howed₀ := fun _ => rfl) (howedN := fun _ => rfl)
    (L := L) (lv := lv) (hL := L_of_ne) (hwaits := waits m ρ)
    (G := dealt m ρ) (G' := ready m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := open_all m ρ)
    (hA := fun _ _ => rfl) (hpf := fun _ k => k.elim0)
    (X := brought m ρ) (Y := fun c => unscopedSems0 c) (Z := fun _ => iprop(emp))
    (hX := brought_intro m ρ) (hin := before_intro m ρ) (hout := after_elim m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays at the end -/

/-- The operands are as they were. -/
theorem final_x (c : Dev nD) : finalA m ρ c (0 : Fin 5) = m ((c : Thread nD τ).loc main_arg0) := (dats (F := F) m ρ 0 c).arrAt_in (0 : Fin 5) rfl _
theorem final_g (c : Dev nD) : finalA m ρ c (1 : Fin 5) = m ((c : Thread nD τ).loc main_arg1) := (dats (F := F) m ρ 0 c).arrAt_in (1 : Fin 5) rfl _
theorem final_u (c : Dev nD) : finalA m ρ c (2 : Fin 5) = m ((c : Thread nD τ).loc main_arg2) := (dats (F := F) m ρ 0 c).arrAt_in (2 : Fin 5) rfl _
theorem final_d (c : Dev nD) : finalA m ρ c (3 : Fin 5) = m ((c : Thread nD τ).loc main_arg3) := (dats (F := F) m ρ 0 c).arrAt_in (3 : Fin 5) rfl _

/-- The windows' blocks are the whole arrays, from their beginning. -/
theorem zero_x : (fun a => (win0_0.index (0 : Fin 1)) a * main_arg0.ty.shape.size a) = fun _ => 0 := funext fun a => by fin_cases a <;> decide
theorem zero_g : (fun a => (win0_1.index (0 : Fin 1)) a * main_arg1.ty.shape.size a) = fun _ => 0 := funext fun a => by fin_cases a <;> decide
theorem zero_u : (fun a => (win0_2.index (0 : Fin 1)) a * main_arg2.ty.shape.size a) = fun _ => 0 := funext fun a => by fin_cases a <;> decide
theorem zero_d : (fun a => (win0_3.index (0 : Fin 1)) a * main_arg3.ty.shape.size a) = fun _ => 0 := funext fun a => by fin_cases a <;> decide
theorem zero_o : (fun a => (win0_4.index (0 : Fin 1)) a * main_v1.ty.shape.size a) = fun _ => 0 := funext fun a => by fin_cases a <;> decide

/-- So what is staged is the array, -/
theorem xstg_eq (c : Dev nD) : xstg m ρ c = m ((c : Thread nD τ).loc main_arg0) :=
  Memref.read_access_unit_zero (Elt F) main_arg0 zero_x (fun a => by fin_cases a <;> decide) _
theorem gstg_eq (c : Dev nD) : gstg m ρ c = m ((c : Thread nD τ).loc main_arg1) :=
  Memref.read_access_unit_zero (Elt F) main_arg1 zero_g (fun a => by fin_cases a <;> decide) _
theorem ustg_eq (c : Dev nD) : ustg m ρ c = m ((c : Thread nD τ).loc main_arg2) :=
  Memref.read_access_unit_zero (Elt F) main_arg2 zero_u (fun a => by fin_cases a <;> decide) _
theorem dstg_eq (c : Dev nD) : dstg m ρ c = m ((c : Thread nD τ).loc main_arg3) :=
  Memref.read_access_unit_zero (Elt F) main_arg3 zero_d (fun a => by fin_cases a <;> decide) _

/-- and the result's array is what the kernel left in its buffer. -/
theorem final_o (c : Dev nD) : finalA m ρ c (4 : Fin 5) = outAt m ρ c := by
  refine (Memref.read_access_unit_zero (Elt F) main_v1 zero_o (fun a => by fin_cases a <;> decide) _).symm.trans ?_
  unfold finalA
  rw [show cfg0.N = ((0 : Fin 1) : Fin cfg0.N).val + 1 from rfl, (dats m ρ 0 c).arrAt_succ (4 : Fin 5) (0 : Fin 1)]
  rw [show (cfg0.win (4 : Fin 5)).flush (0 : Fin 1) = true from flush0_4 _, if_pos rfl]
  exact View.read_write_univ _ _

end Cert.Ffn

end
-- ==== Proof.Value.lean ====
/-
  What the kernel computes over the extended reals, one entry at a time.

  A hidden place is a gate times the other projection and its sigmoid (`gated`). A device's partial product sums its
  quarter of the hidden places (`part_apply`). A device's chunk is the sum of the four devices' partial products
  (`acc_apply`), for a sum over a device and its three peers is a sum over all devices (`sum_devices`). Rounding changes
  nothing here, so every device ends with the same result (`outAt_apply`).
-/
module

public import proofs.«01_k».proof.Proof.Run
public import Idealize.ShloMosaic.Lib.Pointwise

@[expose] public section

noncomputable section

namespace Cert.Ffn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt Ideal) ℓ) (ρ : Dev nD → PrngReg)

/-- A hidden place: the gate's sum, times the other sum, times that sum's sigmoid. -/
def gated (a b : EReal) : EReal := a * (b * Ideal.logistic b)

/-- An entry of one block's computation, from its operands. -/
theorem block_apply (x : Vec Ideal S256x1024 .f32) (g u : Vec Ideal S1024x2048 .f32) (d : Vec Ideal S2048x1024 .f32) (i : Fin 256) (j : Fin 1024) :
    k0_pay6 x g u d (ix2 i j)
      = ∑ k : Fin 2048, gated (∑ l : Fin 1024, x (ix2 i l) * g (ix2 l k)) (∑ l : Fin 1024, x (ix2 i l) * u (ix2 l k)) * d (ix2 k j) := by
  pointwise [k0_pay6, gated]

/-- The four operands as they lie on device `s`. -/
def inp (s : Dev nD) : Vec Ideal S1024x1024 .f32 := m ((s : Thread nD τ).loc main_arg0)
def gate (s : Dev nD) : Vec Ideal S1024x2048 .f32 := m ((s : Thread nD τ).loc main_arg1)
def up (s : Dev nD) : Vec Ideal S1024x2048 .f32 := m ((s : Thread nD τ).loc main_arg2)
def down (s : Dev nD) : Vec Ideal S2048x1024 .f32 := m ((s : Thread nD τ).loc main_arg3)

/-- Device `r`'s row `i` of the input is row `256 r + i`. -/
theorem rows_apply (s r : Dev nD) (i : Fin 256) (l : Fin 1024) :
    rows m ρ s r (ix2 i l) = inp m s (ix2 ⟨256 * r.val + i.val, by have := i.isLt; have h : r.val < 4 := r.isLt; omega⟩ l) := by
  unfold rows inp
  rw [xstg_eq, View.readAt_rect]
  refine congrArg (m ((s : Thread nD τ).loc main_arg0)) (funext fun (a : Fin 2) => Fin.ext ?_)
  refine (ValueKit.view_emb_slice_whole_unit_val cc0_stg0_0 (rowOff r) S256x1024.size (row_inb r) (ix2 i l) a).trans ?_
  match a with
  | 0 => rfl
  | 1 => exact Nat.zero_add _

/-- An entry of device `s`'s share of row `i`, column `j` of the result. -/
def share (s : Dev nD) (i j : Fin 1024) : EReal :=
  ∑ k : Fin 2048, gated (∑ l : Fin 1024, inp m s (ix2 i l) * gate m s (ix2 l k)) (∑ l : Fin 1024, inp m s (ix2 i l) * up m s (ix2 l k)) * down m s (ix2 k j)

/-- What device `s` computes for device `r` is its share of `r`'s rows. -/
theorem part_apply (s r : Dev nD) (i : Fin 256) (j : Fin 1024) :
    part m ρ s r (ix2 i j) = share m s ⟨256 * r.val + i.val, by have := i.isLt; have h : r.val < 4 := r.isLt; omega⟩ j := by
  unfold part share
  rw [block_apply, show gstg m ρ s = gate m s from gstg_eq m ρ s, show ustg m ρ s = up m s from ustg_eq m ρ s, show dstg m ρ s = down m s from dstg_eq m ρ s]
  simp only [rows_apply]

/-- A sum over a device and its three peers is the sum over all the devices. -/
theorem sum_devices (f : Dev nD → EReal) (r : Dev nD) : f r + f (peer 0 r) + f (peer 1 r) + f (peer 2 r) = ∑ s, f s := by
  have h : (Finset.univ : Finset (Dev nD)) = {r, peer 0 r, peer 1 r, peer 2 r} := by revert r; decide
  rw [h, Finset.sum_insert, Finset.sum_insert, Finset.sum_insert, Finset.sum_singleton]
  · simp only [add_assoc]
  all_goals (revert r; decide)

/-- A device's chunk holds the sum of the four shares. -/
theorem acc_apply (r : Dev nD) (i : Fin 256) (j : Fin 1024) :
    acc m ρ r (ix2 i j) = ∑ s, share m s ⟨256 * r.val + i.val, by have := i.isLt; have h : r.val < 4 := r.isLt; omega⟩ j := by
  have h : acc m ρ r (ix2 i j)
      = part m ρ r r (ix2 i j) + part m ρ (peer 0 r) r (ix2 i j) + part m ρ (peer 1 r) r (ix2 i j) + part m ρ (peer 2 r) r (ix2 i j) := by
    pointwise [acc, k0_pay9, k0_pay8, k0_pay7, asSlot, sent]
  rw [h, sum_devices fun s => part m ρ s r (ix2 i j)]
  simp only [part_apply]

/-- On every device, every entry of the result is the sum of the four shares. -/
theorem outAt_apply (c : Dev nD) (i j : Fin 1024) : outAt m ρ c (ix2 i j) = ∑ s, share m s i j := by
  have h : outAt m ρ c (ix2 i j) = acc m ρ (chunkOf (ix2 i j)) (inChunk (ix2 i j)) := by
    unfold outAt
    split
    · next hc => rw [hc]
    · rfl
  have hi : inChunk (ix2 i j) = ix2 ⟨i.val % 256, Nat.mod_lt _ (by decide)⟩ j := eq_ix2 _
  rw [h, hi, acc_apply]
  have hrow : 256 * (chunkOf (ix2 i j)).val + i.val % 256 = i.val := Nat.div_add_mod i.val 256
  simp only [hrow]

end Cert.Ffn

end
-- ==== Proof.Reference.lean ====
/-
  What the reference computes over the extended reals, one entry at a time.

  Its text divides by one plus an exponential where the kernel multiplies by a sigmoid. The denominator is never zero,
  so the two agree on all extended reals (`over_sigmoid`).
-/
module

public import proofs.«01_k».proof.Proof.Value
public import proofs.«01_k».proof.Proof.Gen.ReferenceIdeal.Run

@[expose] public section

noncomputable section

namespace Cert.Ffn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- One plus an exponential is not zero. -/
theorem denom_ne_zero (b : EReal) : 1 + Ideal.exp (-b) ≠ 0 := by
  have h : (0 : EReal) ≤ Ideal.exp (-b) := by
    induction -b using EReal.rec with
    | bot => exact le_refl _
    | top => exact le_top
    | coe r => exact EReal.coe_nonneg.mpr (Real.exp_pos r).le
  exact (lt_of_lt_of_le zero_lt_one (le_add_of_nonneg_right h)).ne'

/-- Dividing by one plus the exponential is multiplying by the sigmoid. -/
theorem over_sigmoid (b : EReal) : Ideal.div b (1 + Ideal.exp (-b)) = b * Ideal.logistic b := by
  unfold Ideal.logistic Ideal.div
  rw [if_neg (denom_ne_zero b), if_neg (denom_ne_zero b), one_mul]

/-- The reference's result, from its four arrays. -/
def reference (x : FVec Ideal Cert.ReferenceIdeal.S1024x1024 .f32) (g u : FVec Ideal Cert.ReferenceIdeal.S1024x8192 .f32)
    (d : FVec Ideal Cert.ReferenceIdeal.S8192x1024 .f32) : FVec Ideal Cert.ReferenceIdeal.S1024x1024 .f32 :=
  Host.dotGeneral Cert.ReferenceIdeal.dot_S1024x8192_S8192x1024_S1024x1024_1_0_0_1_n_n none
    (mulf (Host.dotGeneral Cert.ReferenceIdeal.dot_S1024x1024_S1024x8192_S1024x8192_1_0_0_1_n_n none x g)
      (Host.divf (Host.dotGeneral Cert.ReferenceIdeal.dot_S1024x1024_S1024x8192_S1024x8192_1_0_0_1_n_n none x u)
        (addf (broadcastInDim Cert.ReferenceIdeal.S1024x8192 ![] Cert.ReferenceIdeal.Gen.bcast_S_S1024x8192 (constant Cert.ReferenceIdeal.S_ .f32 0x3F800000#32))
          (Host.exp (Host.negf (Host.dotGeneral Cert.ReferenceIdeal.dot_S1024x1024_S1024x8192_S1024x8192_1_0_0_1_n_n none x u)))))) d

/-- An entry of it: the sum over all the hidden places. -/
theorem reference_apply (x : FVec Ideal Cert.ReferenceIdeal.S1024x1024 .f32) (g u : FVec Ideal Cert.ReferenceIdeal.S1024x8192 .f32)
    (d : FVec Ideal Cert.ReferenceIdeal.S8192x1024 .f32) (i j : Fin 1024) :
    reference x g u d (ix2 i j)
      = ∑ k : Fin 8192, gated (∑ l : Fin 1024, x (ix2 i l) * g (ix2 l k)) (∑ l : Fin 1024, x (ix2 i l) * u (ix2 l k)) * d (ix2 k j) := by
  unfold gated
  simp only [← over_sigmoid]
  pointwise [reference]

end Cert.Ffn

end
-- ==== Proof.Equation.lean ====
/-
  The kernel's result is the reference's.

  The reference sums over 8192 hidden places. Device `s` holds places `2048 s` to `2048 s + 2047`, so the sum over the
  devices of their shares is the sum over all places (`sum_quarters`), in whatever order it is taken.
-/
module

public import proofs.«01_k».proof.Proof.Reference

@[expose] public section

noncomputable section

namespace Cert.Ffn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt Ideal) ℓ) (ρ : Dev nD → PrngReg)

/-- Hidden place `k` of device `s` among all of them. -/
def place (s : Dev nD) (k : Fin 2048) : Fin 8192 := ⟨s.val * 2048 + k.val, by have := k.isLt; have h : s.val < 4 := s.isLt; omega⟩

/-- The sum over all the hidden places, device by device. -/
theorem sum_quarters (f : Fin 8192 → EReal) : ∑ k, f k = ∑ s : Dev nD, ∑ k : Fin 2048, f (place s k) := by
  rw [← Equiv.sum_comp (finProdFinEquiv : Fin 4 × Fin 2048 ≃ Fin 8192) f, Fintype.sum_prod_type]
  refine Finset.sum_congr rfl fun s _ => Finset.sum_congr rfl fun k _ => congrArg f (Fin.ext ?_)
  show k.val + 2048 * s.val = s.val * 2048 + k.val
  omega

/-- When each device holds the input and its quarter of each weight, every device's result is the reference's. -/
theorem outAt_eq_reference (x : FVec Ideal Cert.ReferenceIdeal.S1024x1024 .f32) (g u : FVec Ideal Cert.ReferenceIdeal.S1024x8192 .f32)
    (d : FVec Ideal Cert.ReferenceIdeal.S8192x1024 .f32) (hx : ∀ s, inp m s = x)
    (hg : ∀ s, gate m s = Layout.block ⟨2, ![1024, 2048]⟩ ⟨2, ![1024, 8192]⟩ 1 4 s g)
    (hu : ∀ s, up m s = Layout.block ⟨2, ![1024, 2048]⟩ ⟨2, ![1024, 8192]⟩ 1 4 s u)
    (hd : ∀ s, down m s = Layout.block ⟨2, ![2048, 1024]⟩ ⟨2, ![8192, 1024]⟩ 0 4 s d) (c : Dev nD) : outAt m ρ c = reference x g u d := by
  have col : ∀ (w : FVec Ideal Cert.ReferenceIdeal.S1024x8192 .f32) (s : Dev nD) (l : Fin 1024) (k : Fin 2048),
      (Layout.block ⟨2, ![1024, 2048]⟩ ⟨2, ![1024, 8192]⟩ 1 4 s w) (ix2 l k) = w (ix2 l (place s k)) := fun w s l k =>
    congrArg w (eq_ix2 _)
  have row : ∀ (s : Dev nD) (k : Fin 2048) (j : Fin 1024),
      (Layout.block ⟨2, ![2048, 1024]⟩ ⟨2, ![8192, 1024]⟩ 0 4 s d) (ix2 k j) = d (ix2 (place s k) j) := fun s k j =>
    congrArg d (eq_ix2 _)
  have entry : ∀ i j : Fin 1024, outAt m ρ c (ix2 i j) = reference x g u d (ix2 i j) := fun i j => by
    rw [reference_apply, sum_quarters]
    refine (outAt_apply m ρ c i j).trans ?_
    unfold share
    simp only [hx, hg, hu, hd, col, row]
  refine funext fun (i : S1024x1024.Idx) => ?_
  rw [eq_ix2 i]
  exact entry (i 0) (i 1)

end Cert.Ffn

end
-- ==== Proof.lean ====
/-
  The certificate's claims, from the run of the program and the equation of the two results.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Equation
public import Idealize.ShloMosaic.Adequacy
public import Idealize.ShloMosaic.Init

@[expose] public section

noncomputable section

namespace Cert.Proof

open Idealize.ShloMosaic Idealize.ShloMosaic.TcCoe Idealize.SL.Sem
open Cert.Ffn

/-- Over any float values: the program ends on all the devices, with its result as computed, its operands as they were
    and every semaphore counter at zero. -/
theorem run_kernel {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ fun r =>
      (∀ c : Dev Cert.KernelIdeal.nD,
        r.2.mem ((c.tc : Thread Cert.KernelIdeal.nD Cert.KernelIdeal.τ).loc Cert.KernelIdeal.main_v1) = outAt m ρ c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0 :=
  (θ_run Cert.KernelIdeal.defs _ _).mono (fun _ h => ⟨fun c =>
    ⟨(h.1 c (4 : Fin 5)).trans (final_o m ρ c), (h.1 c (0 : Fin 5)).trans (final_x m ρ c), (h.1 c (1 : Fin 5)).trans (final_g m ρ c),
      (h.1 c (2 : Fin 5)).trans (final_u m ρ c), (h.1 c (3 : Fin 5)).trans (final_d m ρ c)⟩, h.2⟩) (run_main m ρ)

/-- The program has one text, on machine words and over the extended reals: the bodies of its kernel agree, -/
theorem same_body : Cert.Kernel.defs₀ (F := Bits) = Cert.KernelIdeal.defs₀ (F := Bits) :=
  congrArg Defs.onTc (funext fun p => match p with
    | 0 => funext fun _ => rfl)

/-- and so do the launches. -/
theorem same_text : Cert.Kernel.defs (F := Bits) = Cert.KernelIdeal.defs (F := Bits) := congrArg (Pipeline.defs _) same_body

/-- The program on machine words keeps its operands and ends with every counter at zero, -/
theorem frame_kernel : Cert.quiescent_Kernel := fun m ρ _ => by
  rw [same_text]
  exact (θ_run Cert.KernelIdeal.defs _ _).mono (fun _ h => ⟨fun c => (h.1 c).2, h.2⟩) (run_kernel (F := Bits) m ρ)

/-- and so does the program over the extended reals, -/
theorem frame_kernelIdeal : Cert.quiescent_KernelIdeal := fun m ρ _ =>
  (θ_run Cert.KernelIdeal.defs _ _).mono (fun _ h => ⟨fun c => (h.1 c).2, h.2⟩) (run_kernel (F := Ideal) m ρ)

/-- and the reference. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals every device's result is the reference's. -/
theorem values : Cert.algebraic_KernelIdeal_ReferenceIdeal := fun m ρ m' ρ' _ h =>
  ⟨reference _ _ _ _,
    (θ_run Cert.KernelIdeal.defs _ _).mono (fun _ hr c =>
      ⟨(hr.1 c).1.trans (outAt_eq_reference m ρ _ _ _ _ (fun s => (h s).1) (fun s => (h s).2.1) (fun s => (h s).2.2.1) (fun s => (h s).2.2.2) c), (hr.1 c).2⟩)
      (run_kernel (F := Ideal) m ρ),
    (θ_run Cert.ReferenceIdeal.defs _ _).mono (fun _ hr => hr 0) (Cert.ReferenceIdeal.Value.run (F := Ideal) m' ρ')⟩

/-- All five claims. -/
theorem claim : Cert.Claim := ⟨Cert.Kernel.Gen.facts, Cert.KernelIdeal.Gen.facts, Cert.ReferenceIdeal.Gen.facts,
  frame_kernel, frame_kernelIdeal, frame_reference, trivial, values⟩

end Cert.Proof

end
